-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S5x128x512 : Shape := ⟨3, ![5, 128, 512]⟩
abbrev S10 : Shape := ⟨1, ![10]⟩
abbrev S256x256 : Shape := ⟨2, ![256, 256]⟩
abbrev S128x128 : Shape := ⟨2, ![128, 128]⟩
abbrev S128x64 : Shape := ⟨2, ![128, 64]⟩
abbrev S1x1x128x64 : Shape := ⟨4, ![1, 1, 128, 64]⟩
abbrev S64x128 : Shape := ⟨2, ![64, 128]⟩
abbrev S128 : Shape := ⟨1, ![128]⟩
abbrev S128x1 : Shape := ⟨2, ![128, 1]⟩
abbrev S128x256 : Shape := ⟨2, ![128, 256]⟩
abbrev S1 : Shape := ⟨1, ![1]⟩
abbrev S1x128x512 : Shape := ⟨3, ![1, 128, 512]⟩
abbrev S128x512 : Shape := ⟨2, ![128, 512]⟩
abbrev S1x64x512 : Shape := ⟨3, ![1, 64, 512]⟩
abbrev S64x512 : Shape := ⟨2, ![64, 512]⟩
abbrev S1x32x512 : Shape := ⟨3, ![1, 32, 512]⟩
abbrev S32x512 : Shape := ⟨2, ![32, 512]⟩
abbrev S1x16x512 : Shape := ⟨3, ![1, 16, 512]⟩
abbrev S16x512 : Shape := ⟨2, ![16, 512]⟩
abbrev S1x8x512 : Shape := ⟨3, ![1, 8, 512]⟩
abbrev S8x512 : Shape := ⟨2, ![8, 512]⟩

abbrev nBuf : Space → Nat
  | .hbm => 36
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x128x64, .f32⟩
  | .hbm, ⟨3, _⟩ => ⟨S2x128x128x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S2x4x128x64, .f32⟩
  | .hbm, ⟨34, _⟩ => ⟨S2x4x128x64, .f32⟩
  | .hbm, ⟨35, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x4x128x64, .f32⟩
  | .local _ .vmem, ⟨3, _⟩ => ⟨S2x4x128x64, .f32⟩
  | .local _ .vmem, ⟨4, _⟩ => ⟨S256x512, .f32⟩
  | .local _ .vmem, ⟨5, _⟩ => ⟨S2x128x512, .f32⟩
  | .local _ .vmem, ⟨6, _⟩ => ⟨S256x512, .f32⟩
  | .local _ .vmem, ⟨7, _⟩ => ⟨S5x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let c0_i32_151 : BitVec 32 := 0#32
  let c1_i32_149 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let v257 : BitVec 32 := Scalar.subi c1_i32_149 v254
  let c128_i32_150 : BitVec 32 := 128#32
  let v258 : BitVec 32 := Scalar.muli v257 c128_i32_150
  let v259 : BitVec 32 := Scalar.addi c0_i32_151 v258
  let c0_i32_160 : BitVec 32 := 0#32
  ![v259.toNat, 0]
def k0_dev6 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_152 : BitVec 32 := 1#32
  let v260 : BitVec 32 := Scalar.xori v2 c1_i32_152
  let c1_i32_156 : BitVec 32 := 1#32
  let v261 : BitVec 32 := Scalar.muli v260 c1_i32_156
  let v262 : BitVec 32 := Scalar.addi c0_i32_157 v261
  v262.toNat
def k0_off2 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let v282 : Index := Scalar.indexCast v256
  let c0_176 : Index := 0#32
  ![v282.toNat, 0]
def k0_off3 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_184 : BitVec 32 := 1#32
  let c1_i32_181 : BitVec 32 := 1#32
  let v291 : BitVec 32 := Scalar.shrsi v2 c1_i32_181
  let c1_i32_182 : BitVec 32 := 1#32
  let v292 : BitVec 32 := Scalar.andi v291 c1_i32_182
  let v295 : BitVec 32 := Scalar.subi c1_i32_184 v292
  let c64_i32_185 : BitVec 32 := 64#32
  let v296 : BitVec 32 := Scalar.muli v295 c64_i32_185
  let v297 : BitVec 32 := Scalar.addi v256 v296
  let c0_i32_194 : BitVec 32 := 0#32
  ![v297.toNat, 0]
def k0_dev7 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_186 : BitVec 32 := 2#32
  let v298 : BitVec 32 := Scalar.xori v2 c2_i32_186
  let c1_i32_190 : BitVec 32 := 1#32
  let v299 : BitVec 32 := Scalar.muli v298 c1_i32_190
  let v300 : BitVec 32 := Scalar.addi c0_i32_191 v299
  v300.toNat
def k0_off4 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let v320 : Index := Scalar.indexCast v294
  let c0_210 : Index := 0#32
  ![v320.toNat, 0]
def k0_off5 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c1_i32_218 : BitVec 32 := 1#32
  let c2_i32_215 : BitVec 32 := 2#32
  let v329 : BitVec 32 := Scalar.shrsi v2 c2_i32_215
  let c1_i32_216 : BitVec 32 := 1#32
  let v330 : BitVec 32 := Scalar.andi v329 c1_i32_216
  let v333 : BitVec 32 := Scalar.subi c1_i32_218 v330
  let c32_i32_219 : BitVec 32 := 32#32
  let v334 : BitVec 32 := Scalar.muli v333 c32_i32_219
  let v335 : BitVec 32 := Scalar.addi v294 v334
  let c0_i32_228 : BitVec 32 := 0#32
  ![v335.toNat, 0]
def k0_dev8 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_220 : BitVec 32 := 4#32
  let v336 : BitVec 32 := Scalar.xori v2 c4_i32_220
  let c1_i32_224 : BitVec 32 := 1#32
  let v337 : BitVec 32 := Scalar.muli v336 c1_i32_224
  let v338 : BitVec 32 := Scalar.addi c0_i32_225 v337
  v338.toNat
def k0_off6 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let v358 : Index := Scalar.indexCast v332
  let c0_244 : Index := 0#32
  ![v358.toNat, 0]
def k0_off7 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c1_i32_251 : BitVec 32 := 1#32
  let c3_i32 : BitVec 32 := 3#32
  let v367 : BitVec 32 := Scalar.shrsi v2 c3_i32
  let c1_i32_249 : BitVec 32 := 1#32
  let v368 : BitVec 32 := Scalar.andi v367 c1_i32_249
  let v371 : BitVec 32 := Scalar.subi c1_i32_251 v368
  let c16_i32_252 : BitVec 32 := 16#32
  let v372 : BitVec 32 := Scalar.muli v371 c16_i32_252
  let v373 : BitVec 32 := Scalar.addi v332 v372
  let c0_i32_261 : BitVec 32 := 0#32
  ![v373.toNat, 0]
def k0_dev9 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_253 : BitVec 32 := 8#32
  let v374 : BitVec 32 := Scalar.xori v2 c8_i32_253
  let c1_i32_257 : BitVec 32 := 1#32
  let v375 : BitVec 32 := Scalar.muli v374 c1_i32_257
  let v376 : BitVec 32 := Scalar.addi c0_i32_258 v375
  v376.toNat
def k0_off8 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let v396 : Index := Scalar.indexCast v370
  let c0_277 : Index := 0#32
  ![v396.toNat, 0]
def k0_off9 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let c1_i32_285 : BitVec 32 := 1#32
  let c4_i32_282 : BitVec 32 := 4#32
  let v405 : BitVec 32 := Scalar.shrsi v2 c4_i32_282
  let c1_i32_283 : BitVec 32 := 1#32
  let v406 : BitVec 32 := Scalar.andi v405 c1_i32_283
  let v409 : BitVec 32 := Scalar.subi c1_i32_285 v406
  let c8_i32_286 : BitVec 32 := 8#32
  let v410 : BitVec 32 := Scalar.muli v409 c8_i32_286
  let v411 : BitVec 32 := Scalar.addi v370 v410
  let c0_i32_295 : BitVec 32 := 0#32
  ![v411.toNat, 0]
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_287 : BitVec 32 := 16#32
  let v412 : BitVec 32 := Scalar.xori v2 c16_i32_287
  let c1_i32_291 : BitVec 32 := 1#32
  let v413 : BitVec 32 := Scalar.muli v412 c1_i32_291
  let v414 : BitVec 32 := Scalar.addi c0_i32_292 v413
  v414.toNat
def k0_off10 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let c4_i32_282 : BitVec 32 := 4#32
  let v405 : BitVec 32 := Scalar.shrsi v2 c4_i32_282
  let c1_i32_283 : BitVec 32 := 1#32
  let v406 : BitVec 32 := Scalar.andi v405 c1_i32_283
  let c8_i32_284 : BitVec 32 := 8#32
  let v407 : BitVec 32 := Scalar.muli v406 c8_i32_284
  let v408 : BitVec 32 := Scalar.addi v370 v407
  let v434 : Index := Scalar.indexCast v408
  let c0_311 : Index := 0#32
  ![v434.toNat, 0]
def k0_off11 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let c4_i32_282 : BitVec 32 := 4#32
  let v405 : BitVec 32 := Scalar.shrsi v2 c4_i32_282
  let c1_i32_283 : BitVec 32 := 1#32
  let v406 : BitVec 32 := Scalar.andi v405 c1_i32_283
  let c8_i32_284 : BitVec 32 := 8#32
  let v407 : BitVec 32 := Scalar.muli v406 c8_i32_284
  let v408 : BitVec 32 := Scalar.addi v370 v407
  let c0_i32_320 : BitVec 32 := 0#32
  ![v408.toNat, 0]
def k0_dev11 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_315 : BitVec 32 := 16#32
  let v443 : BitVec 32 := Scalar.xori v2 c16_i32_315
  let c1_i32_318 : BitVec 32 := 1#32
  let v444 : BitVec 32 := Scalar.muli v443 c1_i32_318
  let v445 : BitVec 32 := Scalar.addi c0_i32_319 v444
  v445.toNat
def k0_off12 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let c4_i32_282 : BitVec 32 := 4#32
  let v405 : BitVec 32 := Scalar.shrsi v2 c4_i32_282
  let c1_i32_283 : BitVec 32 := 1#32
  let v406 : BitVec 32 := Scalar.andi v405 c1_i32_283
  let c8_i32_284 : BitVec 32 := 8#32
  let v407 : BitVec 32 := Scalar.muli v406 c8_i32_284
  let v408 : BitVec 32 := Scalar.addi v370 v407
  let c4_i32_333 : BitVec 32 := 4#32
  let v462 : BitVec 32 := Scalar.shrsi v2 c4_i32_333
  let c1_i32_334 : BitVec 32 := 1#32
  let v463 : BitVec 32 := Scalar.andi v462 c1_i32_334
  let c8_i32_335 : BitVec 32 := 8#32
  let v464 : BitVec 32 := Scalar.muli v463 c8_i32_335
  let v465 : BitVec 32 := Scalar.subi v408 v464
  let c0_i32_340 : BitVec 32 := 0#32
  ![v465.toNat, 0]
def k0_dev12 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_336 : BitVec 32 := 8#32
  let v466 : BitVec 32 := Scalar.xori v2 c8_i32_336
  let c1_i32_338 : BitVec 32 := 1#32
  let v467 : BitVec 32 := Scalar.muli v466 c1_i32_338
  let v468 : BitVec 32 := Scalar.addi c0_i32_339 v467
  v468.toNat
def k0_off13 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let c4_i32_282 : BitVec 32 := 4#32
  let v405 : BitVec 32 := Scalar.shrsi v2 c4_i32_282
  let c1_i32_283 : BitVec 32 := 1#32
  let v406 : BitVec 32 := Scalar.andi v405 c1_i32_283
  let c8_i32_284 : BitVec 32 := 8#32
  let v407 : BitVec 32 := Scalar.muli v406 c8_i32_284
  let v408 : BitVec 32 := Scalar.addi v370 v407
  let c4_i32_333 : BitVec 32 := 4#32
  let v462 : BitVec 32 := Scalar.shrsi v2 c4_i32_333
  let c1_i32_334 : BitVec 32 := 1#32
  let v463 : BitVec 32 := Scalar.andi v462 c1_i32_334
  let c8_i32_335 : BitVec 32 := 8#32
  let v464 : BitVec 32 := Scalar.muli v463 c8_i32_335
  let v465 : BitVec 32 := Scalar.subi v408 v464
  let c3_i32_353 : BitVec 32 := 3#32
  let v485 : BitVec 32 := Scalar.shrsi v2 c3_i32_353
  let c1_i32_354 : BitVec 32 := 1#32
  let v486 : BitVec 32 := Scalar.andi v485 c1_i32_354
  let c16_i32_355 : BitVec 32 := 16#32
  let v487 : BitVec 32 := Scalar.muli v486 c16_i32_355
  let v488 : BitVec 32 := Scalar.subi v465 v487
  let c0_i32_360 : BitVec 32 := 0#32
  ![v488.toNat, 0]
def k0_dev13 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_356 : BitVec 32 := 4#32
  let v489 : BitVec 32 := Scalar.xori v2 c4_i32_356
  let c1_i32_358 : BitVec 32 := 1#32
  let v490 : BitVec 32 := Scalar.muli v489 c1_i32_358
  let v491 : BitVec 32 := Scalar.addi c0_i32_359 v490
  v491.toNat
def k0_off14 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let c4_i32_282 : BitVec 32 := 4#32
  let v405 : BitVec 32 := Scalar.shrsi v2 c4_i32_282
  let c1_i32_283 : BitVec 32 := 1#32
  let v406 : BitVec 32 := Scalar.andi v405 c1_i32_283
  let c8_i32_284 : BitVec 32 := 8#32
  let v407 : BitVec 32 := Scalar.muli v406 c8_i32_284
  let v408 : BitVec 32 := Scalar.addi v370 v407
  let c4_i32_333 : BitVec 32 := 4#32
  let v462 : BitVec 32 := Scalar.shrsi v2 c4_i32_333
  let c1_i32_334 : BitVec 32 := 1#32
  let v463 : BitVec 32 := Scalar.andi v462 c1_i32_334
  let c8_i32_335 : BitVec 32 := 8#32
  let v464 : BitVec 32 := Scalar.muli v463 c8_i32_335
  let v465 : BitVec 32 := Scalar.subi v408 v464
  let c3_i32_353 : BitVec 32 := 3#32
  let v485 : BitVec 32 := Scalar.shrsi v2 c3_i32_353
  let c1_i32_354 : BitVec 32 := 1#32
  let v486 : BitVec 32 := Scalar.andi v485 c1_i32_354
  let c16_i32_355 : BitVec 32 := 16#32
  let v487 : BitVec 32 := Scalar.muli v486 c16_i32_355
  let v488 : BitVec 32 := Scalar.subi v465 v487
  let c2_i32_373 : BitVec 32 := 2#32
  let v508 : BitVec 32 := Scalar.shrsi v2 c2_i32_373
  let c1_i32_374 : BitVec 32 := 1#32
  let v509 : BitVec 32 := Scalar.andi v508 c1_i32_374
  let c32_i32_375 : BitVec 32 := 32#32
  let v510 : BitVec 32 := Scalar.muli v509 c32_i32_375
  let v511 : BitVec 32 := Scalar.subi v488 v510
  let c0_i32_381 : BitVec 32 := 0#32
  ![v511.toNat, 0]
def k0_dev14 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_376 : BitVec 32 := 2#32
  let v512 : BitVec 32 := Scalar.xori v2 c2_i32_376
  let c1_i32_379 : BitVec 32 := 1#32
  let v513 : BitVec 32 := Scalar.muli v512 c1_i32_379
  let v514 : BitVec 32 := Scalar.addi c0_i32_380 v513
  v514.toNat
def k0_off15 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_146 : BitVec 32 := 0#32
  let v253 : BitVec 32 := Scalar.shrsi v2 c0_i32_146
  let c1_i32_147 : BitVec 32 := 1#32
  let v254 : BitVec 32 := Scalar.andi v253 c1_i32_147
  let c128_i32 : BitVec 32 := 128#32
  let v255 : BitVec 32 := Scalar.muli v254 c128_i32
  let v256 : BitVec 32 := Scalar.addi c0_i32_148 v255
  let c1_i32_181 : BitVec 32 := 1#32
  let v291 : BitVec 32 := Scalar.shrsi v2 c1_i32_181
  let c1_i32_182 : BitVec 32 := 1#32
  let v292 : BitVec 32 := Scalar.andi v291 c1_i32_182
  let c64_i32_183 : BitVec 32 := 64#32
  let v293 : BitVec 32 := Scalar.muli v292 c64_i32_183
  let v294 : BitVec 32 := Scalar.addi v256 v293
  let c2_i32_215 : BitVec 32 := 2#32
  let v329 : BitVec 32 := Scalar.shrsi v2 c2_i32_215
  let c1_i32_216 : BitVec 32 := 1#32
  let v330 : BitVec 32 := Scalar.andi v329 c1_i32_216
  let c32_i32_217 : BitVec 32 := 32#32
  let v331 : BitVec 32 := Scalar.muli v330 c32_i32_217
  let v332 : BitVec 32 := Scalar.addi v294 v331
  let c3_i32 : BitVec 32 := 3#32
  let v367 : BitVec 32 := Scalar.shrsi v2 c3_i32
  let c1_i32_249 : BitVec 32 := 1#32
  let v368 : BitVec 32 := Scalar.andi v367 c1_i32_249
  let c16_i32_250 : BitVec 32 := 16#32
  let v369 : BitVec 32 := Scalar.muli v368 c16_i32_250
  let v370 : BitVec 32 := Scalar.addi v332 v369
  let c4_i32_282 : BitVec 32 := 4#32
  let v405 : BitVec 32 := Scalar.shrsi v2 c4_i32_282
  let c1_i32_283 : BitVec 32 := 1#32
  let v406 : BitVec 32 := Scalar.andi v405 c1_i32_283
  let c8_i32_284 : BitVec 32 := 8#32
  let v407 : BitVec 32 := Scalar.muli v406 c8_i32_284
  let v408 : BitVec 32 := Scalar.addi v370 v407
  let c4_i32_333 : BitVec 32 := 4#32
  let v462 : BitVec 32 := Scalar.shrsi v2 c4_i32_333
  let c1_i32_334 : BitVec 32 := 1#32
  let v463 : BitVec 32 := Scalar.andi v462 c1_i32_334
  let c8_i32_335 : BitVec 32 := 8#32
  let v464 : BitVec 32 := Scalar.muli v463 c8_i32_335
  let v465 : BitVec 32 := Scalar.subi v408 v464
  let c3_i32_353 : BitVec 32 := 3#32
  let v485 : BitVec 32 := Scalar.shrsi v2 c3_i32_353
  let c1_i32_354 : BitVec 32 := 1#32
  let v486 : BitVec 32 := Scalar.andi v485 c1_i32_354
  let c16_i32_355 : BitVec 32 := 16#32
  let v487 : BitVec 32 := Scalar.muli v486 c16_i32_355
  let v488 : BitVec 32 := Scalar.subi v465 v487
  let c2_i32_373 : BitVec 32 := 2#32
  let v508 : BitVec 32 := Scalar.shrsi v2 c2_i32_373
  let c1_i32_374 : BitVec 32 := 1#32
  let v509 : BitVec 32 := Scalar.andi v508 c1_i32_374
  let c32_i32_375 : BitVec 32 := 32#32
  let v510 : BitVec 32 := Scalar.muli v509 c32_i32_375
  let v511 : BitVec 32 := Scalar.subi v488 v510
  let c1_i32_394 : BitVec 32 := 1#32
  let v531 : BitVec 32 := Scalar.shrsi v2 c1_i32_394
  let c1_i32_395 : BitVec 32 := 1#32
  let v532 : BitVec 32 := Scalar.andi v531 c1_i32_395
  let c64_i32_396 : BitVec 32 := 64#32
  let v533 : BitVec 32 := Scalar.muli v532 c64_i32_396
  let v534 : BitVec 32 := Scalar.subi v511 v533
  let c0_i32_401 : BitVec 32 := 0#32
  ![v534.toNat, 0]
def k0_dev15 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_397 : BitVec 32 := 1#32
  let v535 : BitVec 32 := Scalar.xori v2 c1_i32_397
  let c1_i32_399 : BitVec 32 := 1#32
  let v536 : BitVec 32 := Scalar.muli v535 c1_i32_399
  let v537 : BitVec 32 := Scalar.addi c0_i32_400 v536
  v537.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S2x128x128x128, .f32⟩
  | .hbm, ⟨51, _⟩ => ⟨S_, .f32⟩
  | .hbm, ⟨52, _⟩ => ⟨S2x128x128x128, .f32⟩
  | .hbm, ⟨53, _⟩ => ⟨S2x128x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S2x128x128x128, .i1⟩
  | .hbm, ⟨58, _⟩ => ⟨S2x128x128x128, .f32⟩
  | .hbm, ⟨59, _⟩ => ⟨S2x128x128x128, .f32⟩
  | .hbm, ⟨60, _⟩ => ⟨S_, .f32⟩
  | .hbm, ⟨61, _⟩ => ⟨S2x128x128, .f32⟩
  | .hbm, ⟨62, _⟩ => ⟨S2x128x128x1, .f32⟩
  | .hbm, ⟨63, _⟩ => ⟨S2x128x128x128, .f32⟩
  | .hbm, ⟨64, _⟩ => ⟨S2x128x128x128, .f32⟩
  | .hbm, ⟨65, _⟩ => ⟨S2x128x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x128x128, .f32⟩
  | .hbm, ⟨71, _⟩ => ⟨S2x128x128x1, .f32⟩
  | .hbm, ⟨72, _⟩ => ⟨S_, .f32⟩
  | .hbm, ⟨73, _⟩ => ⟨S_, .f32⟩
  | .hbm, ⟨74, _⟩ => ⟨S2x128x128x1, .i1⟩
  | .hbm, ⟨75, _⟩ => ⟨S2x128x128x1, .f32⟩
  | .hbm, ⟨76, _⟩ => ⟨S2x128x128x1, .f32⟩
  | .hbm, ⟨77, _⟩ => ⟨S2x128x128x128, .f32⟩
  | .hbm, ⟨78, _⟩ => ⟨S2x128x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x128x128x128, .i1⟩
  | .hbm, ⟨83, _⟩ => ⟨S2x128x128x128, .f32⟩
  | .hbm, ⟨84, _⟩ => ⟨S2x128x128x128, .f32⟩
  | .hbm, ⟨85, _⟩ => ⟨S2x128x64x128, .f32⟩
  | .hbm, ⟨86, _⟩ => ⟨S2x128x128x64, .f32⟩
  | .hbm, ⟨87, _⟩ => ⟨S2x128x8192, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Mesh.lean ====
/- The mesh of 32 devices as the kernel walks it: the partner of a device in each round, the rows of the
   accumulator it keeps, and the closed forms of the device numbers and row offsets the program computes. -/
module

public import proofs.«01_k».proof.Proof.Gen.KernelIdeal

@[expose] public section

noncomputable section

namespace Cert.KernelIdeal.Hyper

open Idealize.ShloMosaic Idealize.SL.Sem
open Cert.KernelIdeal Cert.KernelIdeal.Gen

/-- Flipping bit `r` of a number below 32 leaves it below 32. -/
theorem flip_lt (c : Dev nD) (r : Fin 5) : c.val ^^^ 2 ^ r.val < nD := by
  revert c r; decide +kernel

/-- The partner of device `c` in round `r`: the device whose number differs in bit `r`. -/
def peer (r : Fin 5) (c : Dev nD) : Dev nD := ⟨c.val ^^^ 2 ^ r.val, flip_lt c r⟩

/-- Being partners is symmetric. -/
theorem peer_peer (r : Fin 5) (c : Dev nD) : peer r (peer r c) = c := by
  revert c r; decide +kernel

/-- The partners of a round as a permutation of the devices. -/
def peerEquiv (r : Fin 5) : Dev nD ≃ Dev nD := ⟨peer r, peer r, peer_peer r, peer_peer r⟩

/-- A device is a partner's partner only in the one way. -/
theorem eq_peer_iff (r : Fin 5) (c d : Dev nD) : d = peer r c ↔ peer r d = c :=
  ⟨fun h => by rw [h, peer_peer], fun h => by rw [← h, peer_peer]⟩

/-- The number of rows a device hands over in round `r`: 128, 64, 32, 16, 8. -/
def half (r : Fin 5) : ℕ := 128 / 2 ^ r.val

/-- The first of the rows device `c` still holds after `n` rounds of halving. -/
def base : ℕ → Dev nD → ℕ
  | 0, _ => 0
  | n + 1, c => base n c + (c.val / 2 ^ n % 2) * (128 / 2 ^ n)

/-- The first row device `c` keeps in round `r`. -/
abbrev keep (r : Fin 5) (c : Dev nD) : ℕ := base (r.val + 1) c

/-- The rows a device keeps lie within the accumulator. -/
theorem keep_le (r : Fin 5) (c : Dev nD) : keep r c + half r ≤ 256 := by
  revert c r; decide +kernel

/-- What round `r` splits: the rows held before are the two halves, one kept and one handed over. -/
theorem split_rows (r : Fin 5) (c : Dev nD) :
    (keep r c = base r.val c ∧ keep r (peer r c) = base r.val c + half r)
      ∨ (keep r (peer r c) = base r.val c ∧ keep r c = base r.val c + half r) := by
  revert c r; decide +kernel

/-- The device whose rows, after the last round, contain row `n`. -/
def owner (n : ℕ) : Dev nD :=
  ⟨(n / 128 % 2 + 2 * (n / 64 % 2) + 4 * (n / 32 % 2) + 8 * (n / 16 % 2) + 16 * (n / 8 % 2)) % 32,
    Nat.mod_lt _ (by decide)⟩

/-- The eight rows a device holds after the last round are its own. -/
theorem owner_last (c : Dev nD) (j : Fin 8) : owner (base 5 c + j.val) = c := by
  revert c j; decide +kernel

/-! ## The program's device numbers and row offsets -/

section Forms
set_option maxRecDepth 100000

/-- The device the program signals and sends to first is the partner of round 0, and so on in order. -/
theorem dev1_eq (c : Dev nD) : k0_dev1 c = (peer 0 c).val := by revert c; decide +kernel
/-- Device number 2 of the program: the partner of round 1, to be signalled. -/
theorem dev2_eq (c : Dev nD) : k0_dev2 c = (peer 1 c).val := by revert c; decide +kernel
/-- Device number 3 of the program: the partner of round 2, to be signalled. -/
theorem dev3_eq (c : Dev nD) : k0_dev3 c = (peer 2 c).val := by revert c; decide +kernel
/-- Device number 4 of the program: the partner of round 3, to be signalled. -/
theorem dev4_eq (c : Dev nD) : k0_dev4 c = (peer 3 c).val := by revert c; decide +kernel
/-- Device number 5 of the program: the partner of round 4, to be signalled. -/
theorem dev5_eq (c : Dev nD) : k0_dev5 c = (peer 4 c).val := by revert c; decide +kernel
/-- Device number 6 of the program: the partner of round 0, to be sent to on the way down. -/
theorem dev6_eq (c : Dev nD) : k0_dev6 c = (peer 0 c).val := by revert c; decide +kernel
/-- Device number 7 of the program: the partner of round 1, to be sent to on the way down. -/
theorem dev7_eq (c : Dev nD) : k0_dev7 c = (peer 1 c).val := by revert c; decide +kernel
/-- Device number 8 of the program: the partner of round 2, to be sent to on the way down. -/
theorem dev8_eq (c : Dev nD) : k0_dev8 c = (peer 2 c).val := by revert c; decide +kernel
/-- Device number 9 of the program: the partner of round 3, to be sent to on the way down. -/
theorem dev9_eq (c : Dev nD) : k0_dev9 c = (peer 3 c).val := by revert c; decide +kernel
/-- Device number 10 of the program: the partner of round 4, to be sent to on the way down. -/
theorem dev10_eq (c : Dev nD) : k0_dev10 c = (peer 4 c).val := by revert c; decide +kernel
/-- Device number 11 of the program: the partner of round 4, to be sent to on the way back. -/
theorem dev11_eq (c : Dev nD) : k0_dev11 c = (peer 4 c).val := by revert c; decide +kernel
/-- Device number 12 of the program: the partner of round 3, to be sent to on the way back. -/
theorem dev12_eq (c : Dev nD) : k0_dev12 c = (peer 3 c).val := by revert c; decide +kernel
/-- Device number 13 of the program: the partner of round 2, to be sent to on the way back. -/
theorem dev13_eq (c : Dev nD) : k0_dev13 c = (peer 2 c).val := by revert c; decide +kernel
/-- Device number 14 of the program: the partner of round 1, to be sent to on the way back. -/
theorem dev14_eq (c : Dev nD) : k0_dev14 c = (peer 1 c).val := by revert c; decide +kernel
/-- Device number 15 of the program: the partner of round 0, to be sent to on the way back. -/
theorem dev15_eq (c : Dev nD) : k0_dev15 c = (peer 0 c).val := by revert c; decide +kernel

/-- The rows handed over in a round of halving are those the partner keeps; -/
theorem off1_eq (c : Dev nD) : k0_off1 c = ![keep 0 (peer 0 c), 0] := by revert c; decide +kernel
/-- The rows handed over in round 1. -/
theorem off3_eq (c : Dev nD) : k0_off3 c = ![keep 1 (peer 1 c), 0] := by revert c; decide +kernel
/-- The rows handed over in round 2. -/
theorem off5_eq (c : Dev nD) : k0_off5 c = ![keep 2 (peer 2 c), 0] := by revert c; decide +kernel
/-- The rows handed over in round 3. -/
theorem off7_eq (c : Dev nD) : k0_off7 c = ![keep 3 (peer 3 c), 0] := by revert c; decide +kernel
/-- The rows handed over in round 4. -/
theorem off9_eq (c : Dev nD) : k0_off9 c = ![keep 4 (peer 4 c), 0] := by revert c; decide +kernel
/-- the rows added to are those the device keeps, -/
theorem off2_eq (c : Dev nD) : k0_off2 c = ![keep 0 c, 0] := by revert c; decide +kernel
/-- The rows added to in round 1. -/
theorem off4_eq (c : Dev nD) : k0_off4 c = ![keep 1 c, 0] := by revert c; decide +kernel
/-- The rows added to in round 2. -/
theorem off6_eq (c : Dev nD) : k0_off6 c = ![keep 2 c, 0] := by revert c; decide +kernel
/-- The rows added to in round 3. -/
theorem off8_eq (c : Dev nD) : k0_off8 c = ![keep 3 c, 0] := by revert c; decide +kernel
/-- The rows added to in round 4. -/
theorem off10_eq (c : Dev nD) : k0_off10 c = ![keep 4 c, 0] := by revert c; decide +kernel
/-- and so are the rows handed out on the way back. -/
theorem off11_eq (c : Dev nD) : k0_off11 c = ![keep 4 c, 0] := by revert c; decide +kernel
/-- The rows handed out in the step back of round 3. -/
theorem off12_eq (c : Dev nD) : k0_off12 c = ![keep 3 c, 0] := by revert c; decide +kernel
/-- The rows handed out in the step back of round 2. -/
theorem off13_eq (c : Dev nD) : k0_off13 c = ![keep 2 c, 0] := by revert c; decide +kernel
/-- The rows handed out in the step back of round 1. -/
theorem off14_eq (c : Dev nD) : k0_off14 c = ![keep 1 c, 0] := by revert c; decide +kernel
/-- The rows handed out in the step back of round 0. -/
theorem off15_eq (c : Dev nD) : k0_off15 c = ![keep 0 c, 0] := by revert c; decide +kernel

end Forms

end Cert.KernelIdeal.Hyper

end
-- ==== Proof.KernelIdeal.Rows.lean ====
/- Windows of rows: the elements of the accumulator and of the receive slots that a transfer, a load or a store of
   `n` rows touches, and what it reads or leaves there. -/
module

public import proofs.«01_k».proof.Proof.KernelIdeal.Mesh
public import proofs.«01_k».proof.Proof.Gen.KernelIdeal.Skeleton
public import Idealize.ShloMosaic.Lib.Pipeline.Value
public import Idealize.ShloMosaic.Lib.Pipeline.ValueKit.Geometry

@[expose] public section

noncomputable section

namespace Cert.KernelIdeal.Hyper

open Idealize.ShloMosaic Idealize.ShloMosaic.TcCoe Idealize.SL.Sem
open Cert.KernelIdeal Cert.KernelIdeal.Gen

variable {F : FTy → Type} [FloatOps F]

/-- `n` rows of 512. -/
abbrev Rw (n : ℕ) : Shape := ⟨2, ![n, 512]⟩
/-- One slab of `n` rows of 512. -/
abbrev Sl (n : ℕ) : Shape := ⟨3, ![1, n, 512]⟩

/-- The accumulator's index at row `i` (taken modulo its 256 rows) and column `j`. -/
def at2 (i : ℕ) (j : Fin 512) : S256x512.Idx :=
  fun | 0 => (⟨i % 256, Nat.mod_lt _ (by decide)⟩ : Fin 256)
      | 1 => j

/-- An index is the one at its own row and column. -/
theorem at2_eq (x : S256x512.Idx) (i : ℕ) (h : (x 0).val = i) : at2 i (x 1) = x := by
  funext a
  match a with
  | 0 => exact Fin.ext (by subst h; exact Nat.mod_eq_of_lt (x 0).isLt)
  | 1 => rfl

/-- The elements of the accumulator in the `n` rows from `lo`. -/
def rows (lo n : ℕ) : Finset S256x512.Idx :=
  Finset.univ.filter fun i => lo ≤ (i 0).val ∧ (i 0).val < lo + n

/-- An element is in the rows when its row number is. -/
theorem mem_rows {lo n : ℕ} {i : S256x512.Idx} : i ∈ rows lo n ↔ lo ≤ (i 0).val ∧ (i 0).val < lo + n := by
  simp [rows]

/-- All 256 rows. -/
theorem rows_all : rows 0 256 = Finset.univ := by
  ext i; simp only [mem_rows, Finset.mem_univ, iff_true]; exact ⟨Nat.zero_le _, by have := (i 0).isLt; simpa using this⟩

/-- The elements of the receive slots in the first `n` rows of slot `r`. -/
def slab (r n : ℕ) : Finset S5x128x512.Idx :=
  Finset.univ.filter fun i => (i 0).val = r ∧ (i 1).val < n

/-- An element is in the slab when it is in that slot and its row number is below `n`. -/
theorem mem_slab {r n : ℕ} {i : S5x128x512.Idx} : i ∈ slab r n ↔ (i 0).val = r ∧ (i 1).val < n := by
  simp [slab]

/-- The `n` rows of `A` from `lo`, as a vector. -/
def win (lo n : ℕ) (A : Vec F S256x512 .f32) : Vec F (Rw n) .f32 := fun x => A (at2 (lo + (x 0).val) (x 1))

/-- The same rows as a slab with a leading unit axis. -/
def win3 (lo n : ℕ) (A : Vec F S256x512 .f32) : Vec F (Sl n) .f32 := fun x => A (at2 (lo + (x 1).val) (x 2))

/-- The receive slots when they hold, from their first row on, the rows of `A` from `lo`. -/
def landed (lo : ℕ) (A : Vec F S256x512 .f32) : Vec F S5x128x512 .f32 := fun x => A (at2 (lo + (x 1).val) (x 2))

section Geometry

variable {n : ℕ} {off : Fin 2 → ℕ} {lo : ℕ}

/-- Whatever the shape's rank-two index, placed at row offset `lo` it lies at row `lo` plus its own. -/
theorem emb_rows (ho : off = ![lo, 0]) (inb : ∀ a, off a + (Rw n).size a ≤ S256x512.size a) (x : (Rw n).Idx) :
    ((View.whole cc0_scratch0).slice (Rect.unit (s := S256x512) off (Rw n).size inb)).emb x = at2 (lo + (x 0).val) (x 1) := by
  subst ho
  have h0 : lo + n ≤ 256 := inb 0
  have hx : (x 0).val < n := (x 0).isLt
  funext a
  refine Fin.ext ?_
  rw [ValueKit.view_emb_slice_whole_unit_val]
  match a with
  | 0 => show lo + (x 0).val = (lo + (x 0).val) % 256
         exact (Nat.mod_eq_of_lt (by omega)).symm
  | 1 => show 0 + (x 1).val = (x 1).val
         omega

/-- The elements a slice of `n` rows covers. -/
theorem set_rows (ho : off = ![lo, 0]) (inb : ∀ a, off a + (Rw n).size a ≤ S256x512.size a) :
    ((View.whole cc0_scratch0).slice (Rect.unit (s := S256x512) off (Rw n).size inb)).set = rows lo n := by
  subst ho
  have h0 : lo + n ≤ 256 := inb 0
  ext i
  rw [View.set_slice_whole, Rect.mem_set_unit, mem_rows]
  constructor
  · intro h; exact h 0
  · intro h a
    match a with
    | 0 => exact h
    | 1 => exact ⟨Nat.zero_le _, by have := (i 1).isLt; simpa using this⟩

/-- A load of `n` rows reads the window. -/
theorem readAt_rows (ho : off = ![lo, 0]) (inb : ∀ a, off a + (Rw n).size a ≤ S256x512.size a)
    (A : Vec F S256x512 .f32) :
    (View.whole cc0_scratch0).readAt (Elt F) (Rect.unit (s := S256x512) off (Rw n).size inb).toLoadRect A = win lo n A := by
  rw [View.readAt_rect]
  funext x
  show A (((View.whole cc0_scratch0).slice (Rect.unit (s := S256x512) off (Rw n).size inb)).emb x) = _
  rw [emb_rows ho]; rfl

/-- A slice of `n` rows reads the window. -/
theorem read_rows (ho : off = ![lo, 0]) (inb : ∀ a, off a + (Rw n).size a ≤ S256x512.size a)
    (A : Vec F S256x512 .f32) :
    ((View.whole cc0_scratch0).slice (Rect.unit (s := S256x512) off (Rw n).size inb)).read (Elt F) A = win lo n A := by
  funext x
  show A (((View.whole cc0_scratch0).slice (Rect.unit (s := S256x512) off (Rw n).size inb)).emb x) = _
  rw [emb_rows ho]; rfl

/-- Every element of the rows is one of the slice's. -/
theorem mem_rows_at {i : S256x512.Idx} (h : i ∈ rows lo n) :
    ∃ x : (Rw n).Idx, i = at2 (lo + (x 0).val) (x 1) := by
  have h' := mem_rows.mp h
  refine ⟨fun | 0 => (⟨(i 0).val - lo, by omega⟩ : Fin n) | 1 => i 1, (at2_eq i _ ?_).symm⟩
  show (i 0).val = lo + ((i 0).val - lo)
  omega

/-- Writing the window of `A` over the rows leaves `A` there, whatever was there before. -/
theorem write_rows (ho : off = ![lo, 0]) (inb : ∀ a, off a + (Rw n).size a ≤ S256x512.size a)
    (f A : Vec F S256x512 .f32) : ∀ i ∈ rows lo n,
      ((View.whole cc0_scratch0).slice (Rect.unit (s := S256x512) off (Rw n).size inb)).write (Elt F) f (win lo n A) Finset.univ i = A i := by
  intro i hi
  obtain ⟨x, rfl⟩ := mem_rows_at hi
  have h := View.write_emb_of_mem (Val := Elt F) (v := (View.whole cc0_scratch0).slice (Rect.unit (s := S256x512) off (Rw n).size inb))
    f (win lo n A) (Finset.mem_univ x)
  rw [emb_rows ho] at h
  exact h

variable {r : ℕ}

/-- An index of a receive slab, placed. -/
theorem emb_slab (inb : ∀ a, (![r, 0, 0] : Fin 3 → ℕ) a + (Sl n).size a ≤ S5x128x512.size a) (x : (Sl n).Idx) (a : Fin 3) :
    (((View.whole cc0_scratch1).slice (Rect.unit (s := S5x128x512) ![r, 0, 0] (Sl n).size inb)).emb x a).val
      = (![r, 0, 0] : Fin 3 → ℕ) a + (x a).val :=
  ValueKit.view_emb_slice_whole_unit_val cc0_scratch1 _ _ inb x a

/-- The elements a slice of `n` rows of slot `r` covers. -/
theorem set_slab (inb : ∀ a, (![r, 0, 0] : Fin 3 → ℕ) a + (Sl n).size a ≤ S5x128x512.size a) :
    ((View.whole cc0_scratch1).slice (Rect.unit (s := S5x128x512) ![r, 0, 0] (Sl n).size inb)).set = slab r n := by
  ext i
  rw [View.set_slice_whole, Rect.mem_set_unit, mem_slab]
  constructor
  · intro h
    have h0 := h 0
    have h1 := h 1
    simp at h0 h1
    omega
  · intro h a
    match a with
    | 0 => simp; omega
    | 1 => simp; omega
    | 2 => exact ⟨Nat.zero_le _, by have := (i 2).isLt; simpa using this⟩

/-- A load of `n` rows of slot `r` reads what landed there. -/
theorem readAt_slab (inb : ∀ a, (![r, 0, 0] : Fin 3 → ℕ) a + (Sl n).size a ≤ S5x128x512.size a) (A : Vec F S256x512 .f32) :
    (View.whole cc0_scratch1).readAt (Elt F) (Rect.unit (s := S5x128x512) ![r, 0, 0] (Sl n).size inb).toLoadRect (landed lo A)
      = win3 lo n A := by
  rw [View.readAt_rect]
  funext x
  show landed lo A (((View.whole cc0_scratch1).slice (Rect.unit (s := S5x128x512) ![r, 0, 0] (Sl n).size inb)).emb x) = _
  unfold landed win3
  congr 2
  · congr 1
    rw [emb_slab inb x 1]
    show 0 + _ = _
    omega
  · refine Fin.ext ?_
    rw [emb_slab inb x 2]
    show 0 + _ = _
    omega

/-- Dropping the leading unit axis of the slab gives the rows. -/
theorem cast_win3 (A : Vec F S256x512 .f32) (hc : (Sl n).ShapeCasts (Rw n)) : shapeCast (Rw n) (win3 lo n A) hc = win lo n A := by
  funext x
  rw [shapeCast_dropUnit_apply ![n, 512] (win3 lo n A) hc x]
  rfl

/-- Squeezing the leading unit axis changes no element covered. -/
theorem set_squeeze_slab (inb : ∀ a, (![r, 0, 0] : Fin 3 → ℕ) a + (Sl n).size a ≤ S5x128x512.size a) (hn : (Rw n).numel = (Sl n).numel) :
    (((View.whole cc0_scratch1).slice (Rect.unit (s := S5x128x512) ![r, 0, 0] (Sl n).size inb)).reshape (Rw n) hn).set = slab r n := by
  rw [View.set_reshape, set_slab]

/-- A transfer of the rows of `A` from `lo` into slot `r` leaves them landed there. -/
theorem write_slab (inb : ∀ a, (![r, 0, 0] : Fin 3 → ℕ) a + (Sl n).size a ≤ S5x128x512.size a) (hn : (Rw n).numel = (Sl n).numel)
    (f : Vec F S5x128x512 .f32) (A : Vec F S256x512 .f32) : ∀ i ∈ slab r n,
      (((View.whole cc0_scratch1).slice (Rect.unit (s := S5x128x512) ![r, 0, 0] (Sl n).size inb)).reshape (Rw n) hn).write (Elt F) f
        (win lo n A) Finset.univ i = landed lo A i := by
  intro i hi
  rw [← set_squeeze_slab inb hn] at hi
  obtain ⟨y, -, rfl⟩ := Finset.mem_map.mp hi
  have h := View.write_emb_of_mem (Val := Elt F)
    (v := ((View.whole cc0_scratch1).slice (Rect.unit (s := S5x128x512) ![r, 0, 0] (Sl n).size inb)).reshape (Rw n) hn)
    f (win lo n A) (Finset.mem_univ y)
  refine h.trans ?_
  have hc : (Sl n).ShapeCasts (Rw n) := hn
  have e := congrFun (cast_win3 (lo := lo) A hc) y
  exact e.symm.trans (congrFun (readAt_slab (lo := lo) inb A).symm _)

end Geometry

end Cert.KernelIdeal.Hyper

end
-- ==== Proof.KernelIdeal.Talk.lean ====
/- What the devices say to each other: the semaphore cells, what each credits hand over, the contents of every landing,
   what each device owes at launch, and the order of the waits.

   Every device `c` has a barrier cell, ten send cells and ten receive cells.  Transfers 0..4 are the five rounds of halving
   (round `r`, to the partner of round `r`, into its receive slot `r`); transfers 5..9 are the five steps back, step `5 + s`
   going to the partner of round `4 - s`, into its accumulator.

   * The barrier cell of `d` is credited once by each of the five partners of `d`; with its unit the partner of round `r` hands
     over its own receive slot `r`, and the fact that its receive cells `r` and `9 - r` are ready.
   * Receive cell `r` of `d` is credited by the transfer of round `r`: `d` gets its slot back, holding the partner's rows, and
     with it the partner's rows themselves, which the partner will not touch until `d` gives them back.
   * Receive cell `9 - r` of `d` is credited by the step back: `d` gets the rows it lent in round `r`, holding the result.
   * A send cell is credited when the source is read; the steps back return the source rows with it. -/
module

public import proofs.«01_k».proof.Proof.KernelIdeal.Rows
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Harness.Basic

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- Ghost state: the pipeline's rounds and the devices' own. -/
abbrev UU : Type := UR sig nD τ × URounds (GSem nD τ sig) (Fin 5)

local notation "𝕄" => MT nD τ sig Unit (Elt F) ℕ UU ℕ

/-- The pipeline's part of the ghost state -/
abbrev EP : Emb (UR sig nD τ) (MT nD τ sig Unit (Elt F) ℕ UU ℕ) := embL
/-- and the devices' own part. -/
abbrev ER : Emb (URounds (GSem nD τ sig) (Fin 5)) (MT nD τ sig Unit (Elt F) ℕ UU ℕ) := embR

/-! ## Cells -/

/-- The runtime's barrier semaphore of this collective. -/
abbrev barS : Sem sig := ⟨0, by decide⟩
/-- The semaphore a device's transfer `j` credits when its source has been read. -/
abbrev sendS (j : Fin 10) : DmaSem sig := ⟨6 + j.val, by have := j.isLt; show 6 + j.val < 26; omega⟩
/-- The semaphore the transfer `j` of the partner credits when it has landed. -/
abbrev recvS (j : Fin 10) : DmaSem sig := ⟨16 + j.val, by have := j.isLt; show 16 + j.val < 26; omega⟩

/-- Device `c`'s barrier cell, -/
abbrev barCell (c : Dev nD) : GSem nD τ sig := ((c : Thread nD τ), .reg barS)
/-- its send cell of transfer `j` -/
abbrev sendCell (c : Dev nD) (j : Fin 10) : GSem nD τ sig := ((c : Thread nD τ), .dma (sendS j))
/-- and its receive cell of transfer `j`. -/
abbrev recvCell (c : Dev nD) (j : Fin 10) : GSem nD τ sig := ((c : Thread nD τ), .dma (recvS j))

/-- The round whose partner and row count transfer `j` has. -/
def rd (j : Fin 10) : Fin 5 := if h : j.val < 5 then ⟨j.val, h⟩ else ⟨9 - j.val, by omega⟩
/-- The transfer of round `r` on the way down, -/
def down (r : Fin 5) : Fin 10 := ⟨r.val, by omega⟩
/-- and on the way back. -/
def back (r : Fin 5) : Fin 10 := ⟨9 - r.val, by omega⟩

/-- The transfers on the way down come first, -/
theorem down_lt (r : Fin 5) : (down r).val < 5 := r.isLt
/-- those on the way back after them. -/
theorem back_not_lt (r : Fin 5) : ¬ (back r).val < 5 := by show ¬ 9 - r.val < 5; omega
/-- The transfer on the way down of round `r` is of round `r`, -/
theorem rd_down (r : Fin 5) : rd (down r) = r := by revert r; decide
/-- and so is the one on the way back. -/
theorem rd_back (r : Fin 5) : rd (back r) = r := by revert r; decide

/-- What the landing of `n` rows credits. -/
abbrev credit (n : ℕ) : ℕ := RefSig.tileCredit (Rw n) .f32
/-- The units transfer `j` credits on either side. -/
def units (j : Fin 10) : ℕ := credit (half (rd j))

/-- Every transfer credits something. -/
theorem units_pos (j : Fin 10) : 0 < units j := by
  unfold units
  refine RefSig.tileCredit_pos _ _ ?_
  revert j; decide +kernel

/-! ## Contents -/

section Contents

variable (P : Dev nD → Vec F S256x512 .f32)

/-- Device `c`'s accumulator after `n` rounds of halving, when every device `d` began at `P d`; only the rows the device still
    holds have this value in the run. -/
def accN : ℕ → Dev nD → Vec F S256x512 .f32
  | 0, c => P c
  | n + 1, c => addf (accN n c) (accN n (peer (Fin.ofNat 5 n) c))

/-- A round adds the partner's accumulator to the device's. -/
theorem accN_succ (r : Fin 5) (c : Dev nD) : accN P (r.val + 1) c = addf (accN P r.val c) (accN P r.val (peer r c)) := by
  show addf _ _ = _
  rw [show Fin.ofNat 5 r.val = r from Fin.ext (Nat.mod_eq_of_lt r.isLt)]

/-- The result: each row as the device that owns it after the last round has it. -/
def outA : Vec F S256x512 .f32 := fun i => accN P 5 (owner (i 0).val) i

/-- On the rows a device holds after the last round its accumulator is the result. -/
theorem outA_last (c : Dev nD) (i : S256x512.Idx) (hi : i ∈ rows (keep 4 c) (half 4)) : accN P 5 c i = outA P i := by
  obtain ⟨h1, h2⟩ := mem_rows.mp hi
  have h8 : half 4 = 8 := by decide
  rw [h8] at h2
  have ho := owner_last c ⟨(i 0).val - keep 4 c, by omega⟩
  unfold outA
  rw [show (i 0).val = base 5 c + ((i 0).val - keep 4 c) from by show _ = keep 4 c + _; omega, ho]

end Contents

/-! ## What is held of the buffers -/

/-- The elements `S` of device `c`'s accumulator, at `f`. -/
abbrev accPts (c : Dev nD) (S : Finset S256x512.Idx) (f : Vec F S256x512 .f32) : sProp 𝕄 :=
  ((c : Thread nD τ).loc cc0_scratch0) ↦[S]{fullShare} f
/-- The elements `S` of device `c`'s receive slots, at `f`. -/
abbrev slotPts (c : Dev nD) (S : Finset S5x128x512.Idx) (f : Vec F S5x128x512 .f32) : sProp 𝕄 :=
  ((c : Thread nD τ).loc cc0_scratch1) ↦[S]{fullShare} f

section Sched

variable (P : Dev nD → Vec F S256x512 .f32)

/-- What the partner of round `r` hands device `d` with its barrier unit. -/
def barPay (d : Dev nD) (r : Fin 5) : sProp 𝕄 :=
  iprop((∃ f, slotPts (peer r d) (slab r.val (half r)) f)
    ∗ reached ER (recvCell (peer r d) (down r)) 0 ∗ reached ER (recvCell (peer r d) (back r)) 0)

/-- What device `c` gets with the landing of round `r`. -/
def downPay (c : Dev nD) (r : Fin 5) : sProp 𝕄 :=
  iprop(slotPts c (slab r.val (half r)) (landed (keep r c) (accN P r.val (peer r c)))
    ∗ ∃ f, accPts (peer r c) (rows (keep r c) (half r)) f)

/-- What device `c` gets with the landing of the step back of round `r`. -/
def backPay (c : Dev nD) (r : Fin 5) : sProp 𝕄 := accPts c (rows (keep r (peer r c)) (half r)) (outA P)

/-- What device `c` gets with the landing of transfer `j`. -/
def recvPay (c : Dev nD) (j : Fin 10) : sProp 𝕄 := if j.val < 5 then downPay P c (rd j) else backPay P c (rd j)

/-- What device `c` gets when its own transfer's source has been read. -/
def sendPay (c : Dev nD) (j : Fin 10) : sProp 𝕄 :=
  if j.val < 5 then iprop(emp) else accPts c (rows (keep (rd j) c) (half (rd j))) (outA P)

/-- The transfer a DMA semaphore's number belongs to. -/
def ixOf (s : ℕ) : Fin 10 := ⟨(s - 6) % 10, Nat.mod_lt _ (by decide)⟩

/-- The number of transfer `j`'s send semaphore gives `j`, -/
theorem ixOf_send (j : Fin 10) : ixOf (6 + j.val) = j := by revert j; decide
/-- and so does that of its receive semaphore. -/
theorem ixOf_recv (j : Fin 10) : ixOf (16 + j.val) = j := by revert j; decide

/-- One round of credits: five on a barrier cell, one on every send and receive cell. -/
def talk : Rounds.Schedule (GSem nD τ sig) (Fin 5) 𝕄 where
  duties g r := if r = 0 ∧ g.1.2 = .tc then
      (match g.2 with | .reg _ => Finset.univ | .dma s => if 6 ≤ s.val then {0} else ∅) else ∅
  unitless _ := False
  amount g _ _ := match g.2 with | .reg _ => 1 | .dma s => units (ixOf s.val)
  payload g _ d := match g.2 with
    | .reg _ => barPay g.1.1 d
    | .dma s => if s.val < 16 then sendPay P g.1.1 (ixOf s.val) else recvPay P g.1.1 (ixOf s.val)
  amount_pos g _ _ _ := by
    rcases g with ⟨t, s | s⟩
    · exact Nat.one_pos
    · exact units_pos _

/-- What is handed over can be kept in an invariant. -/
instance talk_storable (g : GSem nD τ sig) (r : ℕ) (d : Fin 5) :
    BI.Storable (upEmb : UEmb _ 𝕄) ((talk (F := F) P).payload g r d) := by
  rcases g with ⟨t, s | s⟩
  · show BI.Storable upEmb (barPay t.1 d); unfold barPay; infer_instance
  · show BI.Storable upEmb (if s.val < 16 then sendPay P t.1 (ixOf s.val) else recvPay P t.1 (ixOf s.val))
    unfold sendPay recvPay downPay backPay
    (repeat' split) <;> infer_instance

variable (c : Dev nD)

/-- A barrier cell is credited by five duties, -/
theorem duties_bar : (talk (F := F) P).duties (barCell c) 0 = Finset.univ := by
  dsimp only [talk]; rw [if_pos ⟨rfl, rfl⟩]
/-- a send cell by one -/
theorem duties_send (j : Fin 10) : (talk (F := F) P).duties (sendCell c j) 0 = {0} := by
  dsimp only [talk]; rw [if_pos ⟨rfl, rfl⟩, if_pos (Nat.le_add_right 6 j.val)]
/-- and a receive cell by one. -/
theorem duties_recv (j : Fin 10) : (talk (F := F) P).duties (recvCell c j) 0 = {0} := by
  dsimp only [talk]; rw [if_pos ⟨rfl, rfl⟩, if_pos (show 6 ≤ 16 + j.val by omega)]
/-- No cell is credited in a later round. -/
theorem duties_later (g : GSem nD τ sig) : ∀ r, 1 ≤ r → (talk (F := F) P).duties g r = ∅ :=
  fun r hr => if_neg (fun h => by omega)

/-- A partner credits a barrier cell with one unit, -/
theorem amount_bar (d : Fin 5) : (talk (F := F) P).amount (barCell c) 0 d = 1 := rfl
/-- a transfer credits its send cell with its units -/
theorem amount_send (j : Fin 10) (d : Fin 5) : (talk (F := F) P).amount (sendCell c j) 0 d = units j :=
  congrArg units (ixOf_send j)
/-- and its receive cell with as many. -/
theorem amount_recv (j : Fin 10) (d : Fin 5) : (talk (F := F) P).amount (recvCell c j) 0 d = units j :=
  congrArg units (ixOf_recv j)

/-- A barrier cell gets five units in all, -/
theorem expect_bar : (talk (F := F) P).expect (barCell c) 0 = 5 := by
  unfold Schedule.expect Schedule.amountOf
  rw [duties_bar, Finset.sum_congr rfl fun d _ => amount_bar P c d]; rfl
/-- a send cell the transfer's units -/
theorem expect_send (j : Fin 10) : (talk (F := F) P).expect (sendCell c j) 0 = units j := by
  unfold Schedule.expect Schedule.amountOf; rw [duties_send, Finset.sum_singleton, amount_send]
/-- and a receive cell as many. -/
theorem expect_recv (j : Fin 10) : (talk (F := F) P).expect (recvCell c j) 0 = units j := by
  unfold Schedule.expect Schedule.amountOf; rw [duties_recv, Finset.sum_singleton, amount_recv]

/-- A partner's barrier unit brings what the partner hands over, -/
theorem payload_bar (d : Fin 5) : (talk (F := F) P).payload (barCell c) 0 d = barPay c d := rfl
/-- the transfer's send credit what its source was -/
theorem payload_send (j : Fin 10) (d : Fin 5) : (talk (F := F) P).payload (sendCell c j) 0 d = sendPay P c j := by
  show (if 6 + j.val < 16 then sendPay P c (ixOf (6 + j.val)) else _) = _
  rw [if_pos (by omega), ixOf_send]
/-- and its landing what has landed. -/
theorem payload_recv (j : Fin 10) (d : Fin 5) : (talk (F := F) P).payload (recvCell c j) 0 d = recvPay P c j := by
  show (if 16 + j.val < 16 then _ else recvPay P c (ixOf (16 + j.val))) = _
  rw [if_neg (by omega), ixOf_recv]

/-- All five payloads of a barrier cell, -/
theorem rest_bar : bigSep ((talk (F := F) P).duties (barCell c) 0 \ ∅) (fun u => (talk (F := F) P).payload (barCell c) 0 u)
    = bigSep Finset.univ (fun r => barPay (F := F) c r) := by
  rw [Finset.sdiff_empty, duties_bar]; rfl
/-- the one payload of a send cell -/
theorem rest_send (j : Fin 10) : bigSep ((talk (F := F) P).duties (sendCell c j) 0 \ ∅) (fun u => (talk (F := F) P).payload (sendCell c j) 0 u)
    = sendPay P c j := by
  rw [Finset.sdiff_empty, duties_send, bigSep_singleton, payload_send]
/-- and that of a receive cell. -/
theorem rest_recv (j : Fin 10) : bigSep ((talk (F := F) P).duties (recvCell c j) 0 \ ∅) (fun u => (talk (F := F) P).payload (recvCell c j) 0 u)
    = recvPay P c j := by
  rw [Finset.sdiff_empty, duties_recv, bigSep_singleton, payload_recv]

/-- What lands on the way down -/
theorem recvPay_down (r : Fin 5) : recvPay P c (down r) = downPay P c r := by
  unfold recvPay; rw [if_pos (down_lt r), rd_down]
/-- and on the way back. -/
theorem recvPay_back (r : Fin 5) : recvPay P c (back r) = backPay P c r := by
  unfold recvPay; rw [if_neg (back_not_lt r), rd_back]
/-- On the way down the send credit brings nothing; -/
theorem sendPay_down (r : Fin 5) : sendPay P c (down r) = iprop(emp) := if_pos (down_lt r)
/-- on the way back it brings the rows sent. -/
theorem sendPay_back (r : Fin 5) : sendPay P c (back r) = accPts c (rows (keep r c) (half r)) (outA P) := by
  unfold sendPay; rw [if_neg (back_not_lt r), rd_back]

end Sched

/-! ## What a device owes, and the order of the waits -/

/-- The landings device `c` still owes its partners before transfer `n`: transfers `n`..9. -/
def dueR (n : ℕ) (c : Dev nD) : CellTallies nD τ sig Unit :=
  ∑ j ∈ Finset.univ.filter (fun j : Fin 10 => n ≤ j.val), tallyAt (recvCell (peer (rd j) c) j) () (units j)

/-- The barrier units device `c` still owes its partners before its signal `n`. -/
def dueB (n : ℕ) (c : Dev nD) : CellTallies nD τ sig Unit :=
  ∑ r ∈ Finset.univ.filter (fun r : Fin 5 => n ≤ r.val), tallyAt (barCell (peer r c)) () 1

/-- What device `c` owes at launch. -/
def O₀ (c : Dev nD) : CellTallies nD τ sig Unit := dueR 0 c + dueB 0 c

/-- To make transfer `j` is to pay one landing. -/
theorem dueR_step (j : Fin 10) (c : Dev nD) : dueR j.val c = dueR (j.val + 1) c + tallyAt (recvCell (peer (rd j) c) j) () (units j) := by
  unfold dueR
  rw [show Finset.univ.filter (fun i : Fin 10 => j.val ≤ i.val) = insert j (Finset.univ.filter (fun i : Fin 10 => j.val + 1 ≤ i.val)) from by
    revert j; decide, Finset.sum_insert (by simp), add_comm]

/-- To signal partner `r` is to pay one barrier unit. -/
theorem dueB_step (r : Fin 5) (c : Dev nD) : dueB r.val c = dueB (r.val + 1) c + tallyAt (barCell (peer r c)) () 1 := by
  unfold dueB
  rw [show Finset.univ.filter (fun i : Fin 5 => r.val ≤ i.val) = insert r (Finset.univ.filter (fun i : Fin 5 => r.val + 1 ≤ i.val)) from by
    revert r; decide, Finset.sum_insert (by simp), add_comm]

/-- After ten transfers no landing is owed, -/
theorem dueR_end (c : Dev nD) : dueR 10 c = 0 := by
  unfold dueR; rw [show Finset.univ.filter (fun i : Fin 10 => 10 ≤ i.val) = ∅ from by decide, Finset.sum_empty]

/-- and after five signals no barrier unit. -/
theorem dueB_end (c : Dev nD) : dueB 5 c = 0 := by
  unfold dueB; rw [show Finset.univ.filter (fun i : Fin 5 => 5 ≤ i.val) = ∅ from by decide, Finset.sum_empty]

/-- What is owed in landings is owed to partners' receive cells, -/
theorem dueR_pos {n : ℕ} {c : Dev nD} {g : GSem nD τ sig} {u : Unit} (h : 0 < dueR n c g u) :
    ∃ j : Fin 10, n ≤ j.val ∧ g = recvCell (peer (rd j) c) j := by
  obtain ⟨j, hj, h'⟩ := Pipeline.sum_pos_exists h
  exact ⟨j, (Finset.mem_filter.mp hj).2, (Pipeline.tallyAt_pos h').1⟩

/-- and what is owed at the barrier to partners' barrier cells. -/
theorem dueB_pos {n : ℕ} {c : Dev nD} {g : GSem nD τ sig} {u : Unit} (h : 0 < dueB n c g u) :
    ∃ r : Fin 5, g = barCell (peer r c) := by
  obtain ⟨r, _, h'⟩ := Pipeline.sum_pos_exists h
  exact ⟨r, (Pipeline.tallyAt_pos h').1⟩

/-- Every cell of a TensorCore has one level. -/
def L (g : GSem nD τ sig) : Finset Unit := if g.1.2 = .tc then {()} else ∅

/-- Barrier cells at 1, transfer `j`'s two cells at `2 + j`, all else at 0. -/
def lv (g : GSem nD τ sig) (_ : Unit) : ℕ :=
  match g.2 with | .reg _ => 1 | .dma s => if 6 ≤ s.val then 2 + (ixOf s.val).val else 0

/-- A cell of a device has its one level. -/
theorem L_tc (c : Dev nD) (sm : SemLoc sig) : L ((c : Thread nD τ), sm) = {()} := if_pos rfl
/-- The level of a barrier cell, -/
theorem lv_bar (c : Dev nD) : lv (barCell c) () = 1 := rfl
/-- of a send cell -/
theorem lv_send (c : Dev nD) (j : Fin 10) : lv (sendCell c j) () = 2 + j.val := by
  show (if 6 ≤ 6 + j.val then 2 + (ixOf (6 + j.val)).val else 0) = _
  rw [if_pos (by omega), ixOf_send]
/-- and of a receive cell. -/
theorem lv_recv (c : Dev nD) (j : Fin 10) : lv (recvCell c j) () = 2 + j.val := by
  show (if 6 ≤ 16 + j.val then 2 + (ixOf (16 + j.val)).val else 0) = _
  rw [if_pos (by omega), ixOf_recv]

/-- A device may wait on its barrier cell while it owes every landing. -/
theorem mayWait_bar (c : Dev nD) : (levAts L lv : sProp 𝕄) ⊢ MayWait (c : Thread nD τ) (.reg barS) () (dueR 0 c) :=
  Pipeline.mayWait_of_levAts (by rw [L_tc]; exact Finset.mem_singleton_self _) fun g i h => by
    obtain ⟨j, -, rfl⟩ := dueR_pos h
    refine ⟨by rw [L_tc]; exact Finset.mem_singleton_self _, ?_⟩
    rw [lv_bar, lv_recv]; omega

/-- It may wait on the send cell of transfer `j` while it owes the later landings, -/
theorem mayWait_send (c : Dev nD) (j : Fin 10) :
    (levAts L lv : sProp 𝕄) ⊢ MayWait (c : Thread nD τ) (.dma (sendS j)) () (dueR (j.val + 1) c) :=
  Pipeline.mayWait_of_levAts (by rw [L_tc]; exact Finset.mem_singleton_self _) fun g i h => by
    obtain ⟨k, hk, rfl⟩ := dueR_pos h
    refine ⟨by rw [L_tc]; exact Finset.mem_singleton_self _, ?_⟩
    rw [lv_send, lv_recv]; omega

/-- and on the receive cell of transfer `j`. -/
theorem mayWait_recv (c : Dev nD) (j : Fin 10) :
    (levAts L lv : sProp 𝕄) ⊢ MayWait (c : Thread nD τ) (.dma (recvS j)) () (dueR (j.val + 1) c) :=
  Pipeline.mayWait_of_levAts (by rw [L_tc]; exact Finset.mem_singleton_self _) fun g i h => by
    obtain ⟨k, hk, rfl⟩ := dueR_pos h
    refine ⟨by rw [L_tc]; exact Finset.mem_singleton_self _, ?_⟩
    rw [lv_recv, lv_recv]; omega

end Cert.KernelIdeal.Hyper

end
-- ==== Proof.KernelIdeal.Steps.lean ====
/- One round of halving and one step back, each as a single rule for the stretch of the program that runs it, whatever the
   round, the device and the number of rows. -/
module

public import proofs.«01_k».proof.Proof.KernelIdeal.Talk

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- No loop needs a variant. -/
abbrev 𝒱₀ : Variants := Variants.none

/-- The run of a program by device `c` to the postcondition `Q`. -/
abbrev run (c : Dev nD) (p : Prog (TpuEff nD τ sig (Elt F) Λ₀ .tc) PUnit.{1}) (Q : PUnit.{1} → sProp 𝕄) : sProp 𝕄 :=
  wp frame (wpE (defs₀ (F := F)) 𝒱₀ (c : Thread nD τ) none) Set.univ p Q

/-- The accumulator -/
abbrev accM : Memref sig .tc .vmem S256x512 .f32 := Memref.whole cc0_scratch0
/-- and the receive slots, whole. -/
abbrev slotM : Memref sig .tc .vmem S5x128x512 .f32 := Memref.whole cc0_scratch1

/-- A view of `n` rows of the accumulator, and of `n` rows of a slot with the slot's own axis dropped. -/
abbrev accV {n : ℕ} (off : Fin 2 → ℕ) (inb : ∀ a, off a + (Rw n).size a ≤ S256x512.size a) : View sig .tc .vmem (Rw n) .f32 :=
  (View.whole cc0_scratch0).slice (Rect.unit (s := S256x512) off (Rw n).size inb)
/-- `n` rows of slot `rv`. -/
abbrev slotV {n : ℕ} (rv : ℕ) (inb : ∀ a, (![rv, 0, 0] : Fin 3 → ℕ) a + (Sl n).size a ≤ S5x128x512.size a) (hn : (Rw n).numel = (Sl n).numel) :
    View sig .tc .vmem (Rw n) .f32 :=
  ((View.whole cc0_scratch1).slice (Rect.unit (s := S5x128x512) ![rv, 0, 0] (Sl n).size inb)).reshape (Rw n) hn

/-! ## Every cell's invariant -/

/-- The barrier cells, -/
def barEmb : Dev nD ↪ GSem nD τ sig := ⟨barCell, fun _ _ h => congrArg (fun g : GSem nD τ sig => g.1.1) h⟩
/-- as a set; -/
def barCells : Finset (GSem nD τ sig) := Finset.univ.map barEmb
/-- the send and receive semaphores one after the other, -/
def ownS (i : Fin 20) : DmaSem sig := ⟨6 + i.val, by have := i.isLt; show 6 + i.val < 26; omega⟩
/-- which are all different, -/
theorem ownS_inj : Function.Injective ownS := fun a b h => Fin.ext (by have := congrArg Fin.val h; simp only [ownS] at this; omega)
/-- and their cells. -/
def dmaEmb : Dev nD × Fin 20 ↪ GSem nD τ sig :=
  ⟨fun x => ((x.1 : Thread nD τ), .dma (ownS x.2)), fun a b h => Prod.ext (congrArg (fun g : GSem nD τ sig => g.1.1) h)
    (ownS_inj (by have := congrArg Prod.snd h; simpa using this))⟩
/-- as a set. -/
def dmaCells : Finset (GSem nD τ sig) := Finset.univ.map dmaEmb

/-- A device's barrier cell has an invariant, -/
theorem bar_mem (c : Dev nD) : barCell c ∈ barCells ∪ dmaCells :=
  Finset.mem_union_left _ (Finset.mem_map_of_mem barEmb (Finset.mem_univ c))
/-- each of its send cells has one -/
theorem send_mem (c : Dev nD) (j : Fin 10) : sendCell c j ∈ barCells ∪ dmaCells :=
  Finset.mem_union_right _ (Finset.mem_map_of_mem dmaEmb (Finset.mem_univ ((c, ⟨j.val, by omega⟩) : Dev nD × Fin 20)))
/-- and each of its receive cells. -/
theorem recv_mem (c : Dev nD) (j : Fin 10) : recvCell c j ∈ barCells ∪ dmaCells := by
  have h := Finset.mem_map_of_mem dmaEmb (Finset.mem_univ ((c, ⟨10 + j.val, by omega⟩) : Dev nD × Fin 20))
  have e : dmaEmb ((c, ⟨10 + j.val, by omega⟩) : Dev nD × Fin 20) = recvCell c j := by
    show ((c : Thread nD τ), SemLoc.dma (ownS ⟨10 + j.val, by omega⟩)) = _
    rw [show ownS ⟨10 + j.val, by omega⟩ = recvS j from Fin.ext (by show 6 + (10 + j.val) = 16 + j.val; omega)]
  rw [e] at h
  exact Finset.mem_union_right _ h

section Recs

variable (P : Dev nD → Vec F S256x512 .f32)

/-- Every cell's invariant, at the names `K`, and that round 0 of every barrier cell is reached. -/
def recs (K : GSem nD τ sig → ℕ) : sProp 𝕄 :=
  iprop((bigSep (barCells ∪ dmaCells) fun g => cellInv ER (talk P) (K g) g) ∗ bigSep barCells fun g => reached ER g 0)

/-- The record of the invariants is never used up. -/
instance recs_persistent (K : GSem nD τ sig → ℕ) : BI.Persistent (recs P K) := by unfold recs; infer_instance

/-- It gives any one cell's invariant -/
theorem recs_inv (K : GSem nD τ sig → ℕ) {g : GSem nD τ sig} (h : g ∈ barCells ∪ dmaCells) : recs P K ⊢ cellInv ER (talk P) (K g) g :=
  Laws.sep_and.trans (and_elimL.trans (bigSep_elim h))

/-- and that round 0 of any barrier cell is reached. -/
theorem recs_reached (K : GSem nD τ sig → ℕ) (c : Dev nD) : recs P K ⊢ reached ER (barCell c) 0 :=
  Laws.sep_and.trans (and_elimR.trans (bigSep_elim (Finset.mem_map_of_mem barEmb (Finset.mem_univ c))))

end Recs

/-! ## Loads and stores of rows -/

section Access

variable (c : Dev nD) {n lo : ℕ} {off : Fin 2 → ℕ}

/-- A load of rows of the accumulator that are held reads those rows. -/
theorem load_rows (ho : off = ![lo, 0]) {inb : ∀ a, off a + (Rw n).size a ≤ S256x512.size a} {hl}
    {k : Vec F (Rw n) .f32 → Prog (TpuEff nD τ sig (Elt F) Λ₀ .tc) PUnit.{1}} {Q : PUnit.{1} → sProp 𝕄} (f : Vec F S256x512 .f32) :
    accPts c (rows lo n) f ⊢ iprop((accPts c (rows lo n) f -∗ run c (k (win lo n f)) Q)
      -∗ run c (.op (.load accM (Rect.unit (s := S256x512) off (Rw n).size inb).toLoadRect hl) k) Q) := by
  have h := wp_load (defs := defs₀ (F := F)) (Γ := .empty) (Q := Q) 𝒱₀ (c : Thread nD τ) none Set.univ (m := accM) (r := (Rect.unit (s := S256x512) off (Rw n).size inb).toLoadRect)
    (hl := hl) (k := k) (S := rows lo n) (q := fullShare) (f := f) (by
      have e := set_rows (n := n) ho inb
      rw [View.set_slice] at e
      exact (Finset.Subset.antisymm_iff.mp e).1)
  rw [show accM.view.readAt (Elt F) (Rect.unit (s := S256x512) off (Rw n).size inb).toLoadRect f = win lo n f from readAt_rows ho inb f] at h
  exact h

/-- A load of a slot reads the rows that landed there. -/
theorem load_slot {r rv : ℕ} (hr : rv = r) {inb : ∀ a, (![rv, 0, 0] : Fin 3 → ℕ) a + (Sl n).size a ≤ S5x128x512.size a} {hl}
    {k : Vec F (Sl n) .f32 → Prog (TpuEff nD τ sig (Elt F) Λ₀ .tc) PUnit.{1}} {Q : PUnit.{1} → sProp 𝕄} (A : Vec F S256x512 .f32) :
    slotPts c (slab r n) (landed lo A) ⊢ iprop((slotPts c (slab r n) (landed lo A) -∗ run c (k (win3 lo n A)) Q)
      -∗ run c (.op (.load slotM (Rect.unit (s := S5x128x512) ![rv, 0, 0] (Sl n).size inb).toLoadRect hl) k) Q) := by
  subst hr
  have h := wp_load (defs := defs₀ (F := F)) (Γ := .empty) (Q := Q) 𝒱₀ (c : Thread nD τ) none Set.univ (m := slotM) (r := (Rect.unit (s := S5x128x512) ![rv, 0, 0] (Sl n).size inb).toLoadRect)
    (hl := hl) (k := k) (S := slab rv n) (q := fullShare) (f := landed lo A) (by
      have e := set_slab (n := n) inb
      rw [View.set_slice] at e
      exact (Finset.Subset.antisymm_iff.mp e).1)
  rw [show slotM.view.readAt (Elt F) (Rect.unit (s := S5x128x512) ![rv, 0, 0] (Sl n).size inb).toLoadRect (landed lo A) = win3 lo n A from readAt_slab inb A] at h
  exact h

/-- A store into rows of the accumulator that are held leaves them with what is stored. -/
theorem store_rows (ho : off = ![lo, 0]) {inb : ∀ a, off a + (Rw n).size a ≤ S256x512.size a} {hx hm} {w : Vec F (Rw n) .f32}
    {k : PUnit → Prog (TpuEff nD τ sig (Elt F) Λ₀ .tc) PUnit.{1}} {Q : PUnit.{1} → sProp 𝕄} (f A : Vec F S256x512 .f32) (hw : w = win lo n A) :
    accPts c (rows lo n) f ⊢ iprop((accPts c (rows lo n) A -∗ run c (k ⟨⟩) Q)
      -∗ run c (.op (.store accM (Rect.unit (s := S256x512) off (Rw n).size inb) w Finset.univ hx hm) k) Q) := by
  subst hw
  have h := wp_store (defs := defs₀ (F := F)) (Γ := .empty) (Q := Q) 𝒱₀ (c : Thread nD τ) none Set.univ (m := accM) (r := Rect.unit (s := S256x512) off (Rw n).size inb)
    (w := win lo n A) (Mk := Finset.univ) (hx := hx) (hm := hm) (k := k) (S := rows lo n) (f := f) (by
      rw [View.setOn_univ]
      exact (Finset.Subset.antisymm_iff.mp (set_rows (n := n) ho inb)).1)
  have e : accPts c (rows lo n) ((accV (n := n) off inb).write (Elt F) f (win lo n A) Finset.univ) = accPts c (rows lo n) A :=
    pointsTo_congr (write_rows ho inb f A)
  iintro H Hk
  iapply h $$ H
  iintro H
  iapply Hk
  iapply (Entails.of_eq e); iexact H

end Access

/-! ## What a device holds for its transfers -/

/-- What device `c` owes, whatever it has waited for. -/
def due (c : Dev nD) (O : CellTallies nD τ sig Unit) : sProp 𝕄 := iprop(∃ W, owes (c : Thread nD τ) O W)

/-- What device `c` needs for transfer `j` besides the data: its place in the round of its two cells, the two duties it pays,
    and the right to wait for the landing. -/
def mine (c : Dev nD) (j : Fin 10) : sProp 𝕄 :=
  iprop((atPos ER (sendCell c j) 0 ∅ 0 ∗ reached ER (sendCell c j) 0 ∗ dutyTok ER (sendCell c j) 0 0)
    ∗ (atPos ER (recvCell c j) 0 ∅ 0 ∗ cred (tallyAt (recvCell c j) () (units j)))
    ∗ dutyTok ER (recvCell (peer (rd j) c) j) 0 0)

/-- What is left of it: both its cells have had their round. -/
def done (c : Dev nD) (j : Fin 10) : sProp 𝕄 := iprop(atPos ER (sendCell c j) 1 ∅ 0 ∗ atPos ER (recvCell c j) 1 ∅ 0)

section Sets

variable (r : Fin 5) (c : Dev nD)

/-- The rows held before round `r` are those the device keeps and those its partner keeps, -/
theorem rows_split : rows (base r.val c) (2 * half r) = rows (keep r c) (half r) ∪ rows (keep r (peer r c)) (half r) := by
  ext i
  rw [Finset.mem_union, mem_rows, mem_rows, mem_rows]
  rcases split_rows r c with ⟨h1, h2⟩ | ⟨h1, h2⟩ <;> omega

/-- which have none in common, -/
theorem rows_disjoint : Disjoint (rows (keep r c) (half r)) (rows (keep r (peer r c)) (half r)) := by
  rw [Finset.disjoint_left]
  intro i h h'
  rw [mem_rows] at h h'
  rcases split_rows r c with ⟨h1, h2⟩ | ⟨h1, h2⟩ <;> omega

/-- so they can be held apart. -/
theorem acc_split (f : Vec F S256x512 .f32) : accPts c (rows (base r.val c) (2 * half r)) f
    ⊣⊢ iprop(accPts c (rows (keep r c) (half r)) f ∗ accPts c (rows (keep r (peer r c)) (half r)) f) := by
  rw [rows_split]
  exact pointsTo_union (rows_disjoint r c)

end Sets

section Rounds

variable (P : Dev nD → Vec F S256x512 .f32) (K : GSem nD τ sig → ℕ) (c : Dev nD)

/-! ## The waits -/

section Waits

variable {n n' : ℕ} {src : Memref sig .tc .vmem (Rw n') .f32} {dst : Memref sig .tc .vmem (Rw n) .f32}
  {sm : DmaSem sig} {h₁ : src.view.WordExact} {h₂ : dst.view.WordExact}
  {k : PUnit → Prog (TpuEff nD τ sig (Elt F) Λ₀ .tc) PUnit.{1}}

/-- Waiting for its own transfer `j` to have been read. -/
theorem wait_send {Q : PUnit.{1} → sProp 𝕄} (j : Fin 10) (hs : sm = sendS j) (hd : dst.view.dmaCredit = units j) :
    iprop(recs P K ∗ levAts L lv ∗ cred (tallyAt (sendCell c j) () (units j)) ∗ due c (dueR (j.val + 1) c) ∗ atPos ER (sendCell c j) 0 ∅ 0)
      ⊢ iprop(((due c (dueR (j.val + 1) c) ∗ atPos ER (sendCell c j) 1 ∅ 0 ∗ sendPay P c j) -∗ run c (k ⟨⟩) Q)
        -∗ run c (.op (.waitDma2 sm src dst h₁ h₂) k) Q) := by
  subst hs
  unfold due
  iintro ⟨#HR, #HL, Hc, ⟨%W, Ho⟩, Ha⟩ Hk
  have h := Rounds.wp_wait_rest_token (defs := defs₀ (F := F)) (Γ := .empty) (Q := Q) (k := k) 𝒱₀ ER (talk P) (c : Thread nD τ) none (κ := K (sendCell c j))
    (wpE_waitDma2_eq (src := src) (dst := dst) (hsrc := h₁) (hdst := h₂) (sem := sendS j) 𝒱₀ (c : Thread nD τ) none Set.univ) (Set.mem_univ _) () (O := dueR (j.val + 1) c) (W := W) (R := 0) (m := 0) (T := ∅)
    (by rw [hd, expect_send]; exact Nat.zero_add _)
  rw [hd, rest_send] at h
  iapply h $$ [Hc Ho Ha]
  · isplitl []
    · iapply (recs_inv P K (send_mem c j)); iexact HR
    · iframe
      iapply (mayWait_send c j); iexact HL
  · iintro ⟨Ho, Ha, -, Hp⟩
    iapply Hk
    iframe
    iexists _; iexact Ho

/-- Waiting for the partner's transfer `j` to land. -/
theorem wait_recv {Q : PUnit.{1} → sProp 𝕄} (j : Fin 10) (hs : sm = recvS j) (hd : dst.view.dmaCredit = units j) :
    iprop(recs P K ∗ levAts L lv ∗ cred (tallyAt (recvCell c j) () (units j)) ∗ due c (dueR (j.val + 1) c) ∗ atPos ER (recvCell c j) 0 ∅ 0)
      ⊢ iprop(((due c (dueR (j.val + 1) c) ∗ atPos ER (recvCell c j) 1 ∅ 0 ∗ recvPay P c j) -∗ run c (k ⟨⟩) Q)
        -∗ run c (.op (.waitDma2 sm src dst h₁ h₂) k) Q) := by
  subst hs
  unfold due
  iintro ⟨#HR, #HL, Hc, ⟨%W, Ho⟩, Ha⟩ Hk
  have h := Rounds.wp_wait_rest_token (defs := defs₀ (F := F)) (Γ := .empty) (Q := Q) (k := k) 𝒱₀ ER (talk P) (c : Thread nD τ) none (κ := K (recvCell c j))
    (wpE_waitDma2_eq (src := src) (dst := dst) (hsrc := h₁) (hdst := h₂) (sem := recvS j) 𝒱₀ (c : Thread nD τ) none Set.univ) (Set.mem_univ _) () (O := dueR (j.val + 1) c) (W := W) (R := 0) (m := 0) (T := ∅)
    (by rw [hd, expect_recv]; exact Nat.zero_add _)
  rw [hd, rest_recv] at h
  iapply h $$ [Hc Ho Ha]
  · isplitl []
    · iapply (recs_inv P K (recv_mem c j)); iexact HR
    · iframe
      iapply (mayWait_recv c j); iexact HL
  · iintro ⟨Ho, Ha, -, Hp⟩
    iapply Hk
    iframe
    iexists _; iexact Ho

end Waits

/-! ## The transfers -/

section Sends

variable {n : ℕ} {src dst : Memref sig .tc .vmem (Rw n) .f32} {sS sR : DmaSem sig} {hw₁ : src.view.WordExact} {hw₂ : dst.view.WordExact}
  {k : PUnit → Prog (TpuEff nD τ sig (Elt F) Λ₀ .tc) PUnit.{1}}

/-- A transfer of round `r` on the way down: the rows the device gives away go into the partner's slot. -/
theorem send_down {Q : PUnit.{1} → sProp 𝕄} (r : Fin 5) {t : Dev nD} (ht : t = peer r c) (hh : n = half r) {off : Fin 2 → ℕ} (ho : off = ![keep r (peer r c), 0])
    {inb : ∀ a, off a + (Rw n).size a ≤ S256x512.size a} {rv : ℕ} (hr : rv = r.val)
    {inb' : ∀ a, (![rv, 0, 0] : Fin 3 → ℕ) a + (Sl n).size a ≤ S5x128x512.size a} {hn : (Rw n).numel = (Sl n).numel}
    (hsrc : src.view = accV off inb) (hdst : dst.view = slotV rv inb' hn) (hS : sS = sendS (down r)) (hR : sR = recvS (down r))
    {hsc : dst.view.ref.isScScratch = false} {hty : DmaTarget.Typed .vmem (.dma sR) (.remote (Dev.tc t) dst (.dma sS) hsc)} :
    iprop(recs P K ∗ accPts c (rows (keep r (peer r c)) (half r)) (accN P r.val c) ∗ (∃ f, slotPts (peer r c) (slab r.val (half r)) f)
        ∗ due c (dueR (down r).val c) ∗ dutyTok ER (sendCell c (down r)) 0 0 ∗ reached ER (sendCell c (down r)) 0
        ∗ dutyTok ER (recvCell (peer (rd (down r)) c) (down r)) 0 0 ∗ reached ER (recvCell (peer r c) (down r)) 0)
      ⊢ iprop(((cred (tallyAt (sendCell c (down r)) () (units (down r))) ∗ due c (dueR ((down r).val + 1) c)) -∗ run c (k ⟨⟩) Q)
        -∗ run c (.op (.enqueueDma src (.remote (Dev.tc t) dst (.dma sS) hsc) (.dma sR) hw₁ hw₂ hty) k) Q) := by
  obtain ⟨sv, sm⟩ := src
  obtain ⟨dv, dm⟩ := dst
  dsimp only at hsrc hdst
  subst ht hh hr hsrc hdst hS hR
  rw [rd_down]
  unfold due
  iintro ⟨#HR, Hs, ⟨%f, Hd⟩, ⟨%W, Ho⟩, Ht, #Hr, Ht', #Hr'⟩ Hk
  have hset : (accV (n := half r) off inb).set = rows (keep r (peer r c)) (half r) := set_rows ho inb
  have hset' : (slotV (n := half r) r.val inb' hn).set = slab r.val (half r) := set_squeeze_slab inb' hn
  have hread : (accV (n := half r) off inb).read (Elt F) (accN P r.val c) = win (keep r (peer r c)) (half r) (accN P r.val c) := read_rows ho inb _
  have hpay : iprop((slotPts (peer r c) (slab r.val (half r)) ((slotV (n := half r) r.val inb' hn).write (Elt F) f ((accV (n := half r) off inb).read (Elt F) (accN P r.val c)) Finset.univ))
      ∗ accPts c (rows (keep r (peer r c)) (half r)) (accN P r.val c)) ⊢ (talk P).payload (recvCell (peer r c) (down r)) 0 0 := by
    have e : slotPts (peer r c) (slab r.val (half r)) ((slotV (n := half r) r.val inb' hn).write (Elt F) f (win (keep r (peer r c)) (half r) (accN P r.val c)) Finset.univ)
        = slotPts (peer r c) (slab r.val (half r)) (landed (keep r (peer r c)) (accN P r.val c)) := pointsTo_congr (write_slab inb' hn f _)
    rw [payload_recv, recvPay_down, hread, e]
    unfold downPay
    rw [peer_peer]
    iintro ⟨H, H'⟩
    iframe
    iexists _; iexact H'
  have h := Rounds.wp_send_landing_pointsTo (defs := defs₀ (F := F)) (Γ := .empty) (Q := Q) (k := k) 𝒱₀ ER (talk P) (c : Thread nD τ) none
    (c' := (peer r c : Thread nD τ)) (src := ⟨accV (n := half r) off inb, sm⟩) (dst := ⟨slotV (n := half r) r.val inb' hn, dm⟩) (sS := .dma (sendS (down r))) (sem := .dma (recvS (down r)))
    (hsrc := hw₁) (hdst := hw₂) (hsem := hty) (q := fullShare) (fs := accN P r.val c) (fd := f) (r₁ := 0) (r₂ := 0) (d₁ := 0) (d₂ := 0)
    (κ₁ := K (sendCell c (down r))) (κ₂ := K (recvCell (peer r c) (down r)))
    (by rw [duties_send]; exact Finset.mem_singleton_self _) (by rw [duties_recv]; exact Finset.mem_singleton_self _) () () (units (down r))
    (congrArg credit (congrArg half (rd_down r).symm)) (amount_send P c _ _) (amount_recv P _ _ _) (O₀ := dueR (down r).val c) (dueR ((down r).val + 1) c)
    (by rw [dueR_step (down r) c, rd_down]) (W := W) (by rw [payload_send, sendPay_down]) (by rw [hset, hset']; exact hpay) (Es := Set.univ)
  rw [hset, hset'] at h
  iapply h $$ [Hs Hd Ho Ht Ht']
  · isplitl []
    · iapply (recs_inv P K (send_mem c (down r))); iexact HR
    · isplitl []
      · iapply (recs_inv P K (recv_mem (peer r c) (down r))); iexact HR
      · iframe Hs Hd Ho Ht Ht'
        isplitl [] <;> iassumption
  · iintro ⟨Hc, Ho⟩
    iapply Hk
    iframe
    iexists _; iexact Ho

/-- A transfer back, of round `r`: the finished rows go into the same rows of the partner's accumulator. -/
theorem send_back {Q : PUnit.{1} → sProp 𝕄} (r : Fin 5) {t : Dev nD} (ht : t = peer r c) (hh : n = half r) {off : Fin 2 → ℕ} (ho : off = ![keep r c, 0])
    {inb : ∀ a, off a + (Rw n).size a ≤ S256x512.size a}
    (hsrc : src.view = accV off inb) (hdst : dst.view = accV off inb) (hS : sS = sendS (back r)) (hR : sR = recvS (back r))
    {hsc : dst.view.ref.isScScratch = false} {hty : DmaTarget.Typed .vmem (.dma sR) (.remote (Dev.tc t) dst (.dma sS) hsc)} :
    iprop(recs P K ∗ accPts c (rows (keep r c) (half r)) (outA P) ∗ (∃ f, accPts (peer r c) (rows (keep r c) (half r)) f)
        ∗ due c (dueR (back r).val c) ∗ dutyTok ER (sendCell c (back r)) 0 0 ∗ reached ER (sendCell c (back r)) 0
        ∗ dutyTok ER (recvCell (peer (rd (back r)) c) (back r)) 0 0 ∗ reached ER (recvCell (peer r c) (back r)) 0)
      ⊢ iprop(((cred (tallyAt (sendCell c (back r)) () (units (back r))) ∗ due c (dueR ((back r).val + 1) c)) -∗ run c (k ⟨⟩) Q)
        -∗ run c (.op (.enqueueDma src (.remote (Dev.tc t) dst (.dma sS) hsc) (.dma sR) hw₁ hw₂ hty) k) Q) := by
  obtain ⟨sv, sm⟩ := src
  obtain ⟨dv, dm⟩ := dst
  dsimp only at hsrc hdst
  subst ht hh hsrc hdst hS hR
  rw [rd_back]
  unfold due
  iintro ⟨#HR, Hs, ⟨%f, Hd⟩, ⟨%W, Ho⟩, Ht, #Hr, Ht', #Hr'⟩ Hk
  have hset : (accV (n := half r) off inb).set = rows (keep r c) (half r) := set_rows ho inb
  have hread : (accV (n := half r) off inb).read (Elt F) (outA P) = win (keep r c) (half r) (outA P) := read_rows ho inb _
  have hpay : accPts (peer r c) (rows (keep r c) (half r)) ((accV (n := half r) off inb).write (Elt F) f ((accV (n := half r) off inb).read (Elt F) (outA P)) Finset.univ)
      ⊢ (talk P).payload (recvCell (peer r c) (back r)) 0 0 := by
    have e : accPts (peer r c) (rows (keep r c) (half r)) ((accV (n := half r) off inb).write (Elt F) f (win (keep r c) (half r) (outA P)) Finset.univ)
        = accPts (peer r c) (rows (keep r c) (half r)) (outA P) := pointsTo_congr (write_rows ho inb f _)
    rw [payload_recv, recvPay_back, hread, e]
    unfold backPay
    rw [peer_peer]
  have h := Rounds.wp_send_pointsTo (defs := defs₀ (F := F)) (Γ := .empty) (Q := Q) (k := k) 𝒱₀ ER (talk P) (c : Thread nD τ) none
    (c' := (peer r c : Thread nD τ)) (src := ⟨accV (n := half r) off inb, sm⟩) (dst := ⟨accV (n := half r) off inb, dm⟩) (sS := .dma (sendS (back r))) (sem := .dma (recvS (back r)))
    (hsrc := hw₁) (hdst := hw₂) (hsem := hty) (q := fullShare) (fs := outA P) (fd := f) (r₁ := 0) (r₂ := 0) (d₁ := 0) (d₂ := 0)
    (κ₁ := K (sendCell c (back r))) (κ₂ := K (recvCell (peer r c) (back r)))
    (by rw [duties_send]; exact Finset.mem_singleton_self _) (by rw [duties_recv]; exact Finset.mem_singleton_self _) () () (units (back r))
    (congrArg credit (congrArg half (rd_back r).symm)) (amount_send P c _ _) (amount_recv P _ _ _) (O₀ := dueR (back r).val c) (dueR ((back r).val + 1) c)
    (by rw [dueR_step (back r) c, rd_back]) (W := W) (by rw [payload_send, sendPay_back, hset]) (by rw [hset]; exact hpay) (Es := Set.univ)
  rw [hset] at h
  iapply h $$ [Hs Hd Ho Ht Ht']
  · isplitl []
    · iapply (recs_inv P K (send_mem c (back r))); iexact HR
    · isplitl []
      · iapply (recs_inv P K (recv_mem (peer r c) (back r))); iexact HR
      · iframe Hs Hd Ho Ht Ht'
        isplitl [] <;> iassumption
  · iintro ⟨Hc, Ho⟩
    iapply Hk
    iframe
    iexists _; iexact Ho

end Sends

/-! ## A round, and a step back -/

section Whole

variable {n : ℕ} {src dst ws wd ws' wd' : Memref sig .tc .vmem (Rw n) .f32} {s₁ s₂ s₃ s₄ : DmaSem sig}
  {hw₁ : src.view.WordExact} {hw₂ : dst.view.WordExact} {h₁ : ws.view.WordExact} {h₂ : wd.view.WordExact} {h₃ : ws'.view.WordExact} {h₄ : wd'.view.WordExact}
  {k : PUnit → Prog (TpuEff nD τ sig (Elt F) Λ₀ .tc) PUnit.{1}}

/-- Round `r` on the way down, whole. -/
theorem down_round {Q : PUnit.{1} → sProp 𝕄} (r : Fin 5) {t : Dev nD} (ht : t = peer r c) (hh : n = half r) {off off' : Fin 2 → ℕ}
    (ho : off = ![keep r (peer r c), 0]) (ho' : off' = ![keep r c, 0])
    {inb : ∀ a, off a + (Rw n).size a ≤ S256x512.size a} {inb₁ : ∀ a, off' a + (Rw n).size a ≤ S256x512.size a}
    {rv : ℕ} (hr : rv = r.val)
    {inb' : ∀ a, (![rv, 0, 0] : Fin 3 → ℕ) a + (Sl n).size a ≤ S5x128x512.size a} {hn : (Rw n).numel = (Sl n).numel}
    (hsrc : src.view = accV off inb) (hdst : dst.view = slotV rv inb' hn)
    (hs₁ : s₁ = sendS (down r)) (hs₂ : s₂ = recvS (down r)) (hs₃ : s₃ = sendS (down r)) (hs₄ : s₄ = recvS (down r))
    (hd : wd.view.dmaCredit = credit n) (hd' : wd'.view.dmaCredit = credit n)
    {hsc : dst.view.ref.isScScratch = false} {hty : DmaTarget.Typed .vmem (.dma s₂) (.remote (Dev.tc t) dst (.dma s₁) hsc)}
    {hl₁ hl₂ hl₃ hx hm} {pay : Vec F (Rw n) .f32 → Vec F (Sl n) .f32 → Vec F (Rw n) .f32}
    (hpay : ∀ lo A B, pay (win lo n A) (win3 lo n B) = win lo n (addf A B)) :
    iprop(recs P K ∗ levAts L lv ∗ due c (dueR (down r).val c) ∗ mine c (down r)
        ∗ (∃ f, slotPts (peer r c) (slab r.val (half r)) f) ∗ reached ER (recvCell (peer r c) (down r)) 0
        ∗ accPts c (rows (base r.val c) (2 * half r)) (accN P r.val c))
      ⊢ iprop(((due c (dueR ((down r).val + 1) c) ∗ done c (down r) ∗ (∃ f, slotPts c (slab r.val (half r)) f)
          ∗ (∃ f, accPts (peer r c) (rows (keep r c) (half r)) f) ∗ accPts c (rows (keep r c) (half r)) (accN P (r.val + 1) c)) -∗ run c (k ⟨⟩) Q)
        -∗ run c (.op (.enqueueDma src (.remote (Dev.tc t) dst (.dma s₁) hsc) (.dma s₂) hw₁ hw₂ hty) fun _ =>
            .op (.waitDma2 s₃ ws wd h₁ h₂) fun _ => .op (.waitDma2 s₄ ws' wd' h₃ h₄) fun _ =>
            .op (.load accM (Rect.unit (s := S256x512) off' (Rw n).size inb₁).toLoadRect hl₁) fun v =>
            .op (.load slotM (Rect.unit (s := S5x128x512) ![rv, 0, 0] (Sl n).size inb').toLoadRect hl₂) fun w =>
            .op (.load accM (Rect.unit (s := S256x512) off' (Rw n).size inb₁).toLoadRect hl₃) fun _ =>
            .op (.store accM (Rect.unit (s := S256x512) off' (Rw n).size inb₁) (pay v w) Finset.univ hx hm) k) Q) := by
  have hu : credit n = units (down r) := by unfold units; rw [rd_down, hh]
  unfold mine done
  iintro ⟨#HR, #HL, Ho, ⟨⟨Ha, #Hr, Ht⟩, ⟨Ha', Hc'⟩, Ht'⟩, Hslot, #Hr', Hacc⟩ Hk
  icases (acc_split r c _).1 $$ Hacc with ⟨Hkeep, Hsend⟩
  iapply (send_down P K c r ht hh ho hr hsrc hdst hs₁ hs₂) $$ [Hsend Hslot Ho Ht Ht']
  · iframe
    isplitl []
    · iexact HR
    · isplitl [] <;> iassumption
  iintro ⟨Hc, Ho⟩
  iapply (wait_send P K c (down r) hs₃ (hd.trans hu)) $$ [Hc Ho Ha]
  · iframe
    isplitl [] <;> iassumption
  iintro ⟨Ho, Ha, -⟩
  iapply (wait_recv P K c (down r) hs₄ (hd'.trans hu)) $$ [Hc' Ho Ha']
  · iframe
    isplitl [] <;> iassumption
  rw [recvPay_down]
  unfold downPay
  iintro ⟨Ho, Ha', Hslot, Hpeer⟩
  subst hh
  iapply (load_rows c ho' _) $$ Hkeep
  iintro Hkeep
  iapply (load_slot c hr _) $$ Hslot
  iintro Hslot
  iapply (load_rows c ho' _) $$ Hkeep
  iintro Hkeep
  iapply (store_rows c ho' _ (accN P (r.val + 1) c) (by rw [hpay, accN_succ])) $$ Hkeep
  iintro Hkeep
  iapply Hk
  iframe
  iexists _; iexact Hslot

/-- The step back of round `r`, whole. -/
theorem back_round {Q : PUnit.{1} → sProp 𝕄} (r : Fin 5) {t : Dev nD} (ht : t = peer r c) (hh : n = half r) {off : Fin 2 → ℕ}
    (ho : off = ![keep r c, 0]) {inb : ∀ a, off a + (Rw n).size a ≤ S256x512.size a}
    (hsrc : src.view = accV off inb) (hdst : dst.view = accV off inb)
    (hs₁ : s₁ = sendS (back r)) (hs₂ : s₂ = recvS (back r)) (hs₃ : s₃ = sendS (back r)) (hs₄ : s₄ = recvS (back r))
    (hd : wd.view.dmaCredit = credit n) (hd' : wd'.view.dmaCredit = credit n)
    {hsc : dst.view.ref.isScScratch = false} {hty : DmaTarget.Typed .vmem (.dma s₂) (.remote (Dev.tc t) dst (.dma s₁) hsc)} :
    iprop(recs P K ∗ levAts L lv ∗ due c (dueR (back r).val c) ∗ mine c (back r)
        ∗ (∃ f, accPts (peer r c) (rows (keep r c) (half r)) f) ∗ reached ER (recvCell (peer r c) (back r)) 0
        ∗ accPts c (rows (keep r c) (half r)) (outA P))
      ⊢ iprop(((due c (dueR ((back r).val + 1) c) ∗ done c (back r) ∗ accPts c (rows (base r.val c) (2 * half r)) (outA P)) -∗ run c (k ⟨⟩) Q)
        -∗ run c (.op (.enqueueDma src (.remote (Dev.tc t) dst (.dma s₁) hsc) (.dma s₂) hw₁ hw₂ hty) fun _ =>
            .op (.waitDma2 s₃ ws wd h₁ h₂) fun _ => .op (.waitDma2 s₄ ws' wd' h₃ h₄) k) Q) := by
  have hu : credit n = units (back r) := by unfold units; rw [rd_back, hh]
  unfold mine done
  iintro ⟨#HR, #HL, Ho, ⟨⟨Ha, #Hr, Ht⟩, ⟨Ha', Hc'⟩, Ht'⟩, Hpeer, #Hr', Hacc⟩ Hk
  iapply (send_back P K c r ht hh ho hsrc hdst hs₁ hs₂) $$ [Hacc Hpeer Ho Ht Ht']
  · iframe
    isplitl []
    · iexact HR
    · isplitl [] <;> iassumption
  iintro ⟨Hc, Ho⟩
  iapply (wait_send P K c (back r) hs₃ (hd.trans hu)) $$ [Hc Ho Ha]
  · iframe
    isplitl [] <;> iassumption
  rw [sendPay_back]
  iintro ⟨Ho, Ha, Hkeep⟩
  iapply (wait_recv P K c (back r) hs₄ (hd'.trans hu)) $$ [Hc' Ho Ha']
  · iframe
    isplitl [] <;> iassumption
  rw [recvPay_back]
  unfold backPay
  iintro ⟨Ho, Ha', Hother⟩
  iapply Hk
  iframe
  iapply (acc_split r c _).2
  iframe

end Whole

end Rounds

end Cert.KernelIdeal.Hyper

end
-- ==== Proof.KernelIdeal.Body.lean ====
/- The kernel body run once, at a device that stays a symbol: the entry barrier, the device's own product, the five rounds of
   halving, the five steps back, and the result written out. -/
module

public import proofs.«01_k».proof.Proof.KernelIdeal.Mesh
public import proofs.«01_k».proof.Proof.KernelIdeal.Steps
public import proofs.«01_k».proof.Proof.Gen.KernelIdeal.Skeleton

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## A device's product -/

section Product

variable (X : Vec F S2x128x512 .f32) (Wq : Vec F S512x256 .f32) (Kh Vh : Vec F S2x4x128x64 .f32) (Wo : Vec F S256x512 .f32)

/-- One head of one batch of the staged keys, -/
def headK (off : Fin 4 → ℕ) (inb : ∀ a, off a + S1x1x128x64.size a ≤ S2x4x128x64.size a) : Vec F S1x1x128x64 .f32 :=
  (Memref.whole cc0_stg2_0).view.readAt (Elt F) (Rect.unit (s := S2x4x128x64) off S1x1x128x64.size inb).toLoadRect Kh
/-- and of the staged values. -/
def headV (off : Fin 4 → ℕ) (inb : ∀ a, off a + S1x1x128x64.size a ≤ S2x4x128x64.size a) : Vec F S1x1x128x64 .f32 :=
  (Memref.whole cc0_stg3_0).view.readAt (Elt F) (Rect.unit (s := S2x4x128x64) off S1x1x128x64.size inb).toLoadRect Vh

/-- The device's queries: rows are batch and position, columns its heads. -/
def queries : FVec F S256x256 .f32 := k0_pay4 (k0_pay2 X) (k0_pay3 Wq)
/-- Which positions attend to which. -/
def mask : IVec S128x128 1 := k0_pay10 k0_pay5 k0_pay6 k0_pay7 k0_pay8 k0_pay9

/-- The context of the first batch, -/
def ctx0 : FVec F S128x256 .f32 :=
  k0_pay19 mask
    (k0_pay11 (queries X Wq) k0_pay5 k0_pay6 k0_pay7 k0_pay8 k0_pay9 (headK Kh ![0, 0, 0, 0] inb_S2x4x128x64_S1x1x128x64_0_0_0_0) (headV Vh ![0, 0, 0, 0] inb_S2x4x128x64_S1x1x128x64_0_0_0_0))
    (k0_pay15 mask (k0_pay12 (headV Vh ![0, 1, 0, 0] inb_S2x4x128x64_S1x1x128x64_0_1_0_0)) (k0_pay13 (queries X Wq) (headK Kh ![0, 1, 0, 0] inb_S2x4x128x64_S1x1x128x64_0_1_0_0)) (k0_pay14 (F := F)))
    (k0_pay16 (queries X Wq) mask (headK Kh ![0, 2, 0, 0] inb_S2x4x128x64_S1x1x128x64_0_2_0_0) (headV Vh ![0, 2, 0, 0] inb_S2x4x128x64_S1x1x128x64_0_2_0_0))
    (k0_pay17 (queries X Wq)) (k0_pay18 (headK Kh ![0, 3, 0, 0] inb_S2x4x128x64_S1x1x128x64_0_3_0_0)) (headV Vh ![0, 3, 0, 0] inb_S2x4x128x64_S1x1x128x64_0_3_0_0)
/-- its product with the device's rows of the output weights, after the second batch's context. -/
def product : Vec F S256x512 .f32 :=
  k0_pay27 (queries X Wq) mask (ctx0 X Wq Kh Vh)
    (k0_pay23 (k0_pay20 (headV Vh ![1, 0, 0, 0] inb_S2x4x128x64_S1x1x128x64_1_0_0_0)) (k0_pay21 (queries X Wq) mask (headK Kh ![1, 0, 0, 0] inb_S2x4x128x64_S1x1x128x64_1_0_0_0))
      (k0_pay22 (queries X Wq) mask (headK Kh ![1, 0, 0, 0] inb_S2x4x128x64_S1x1x128x64_1_0_0_0)))
    (k0_pay24 (queries X Wq) mask (headK Kh ![1, 1, 0, 0] inb_S2x4x128x64_S1x1x128x64_1_1_0_0) (headV Vh ![1, 1, 0, 0] inb_S2x4x128x64_S1x1x128x64_1_1_0_0))
    (k0_pay25 (headV Vh ![1, 2, 0, 0] inb_S2x4x128x64_S1x1x128x64_1_2_0_0)) (k0_pay26 (queries X Wq) mask (headK Kh ![1, 2, 0, 0] inb_S2x4x128x64_S1x1x128x64_1_2_0_0))
    (headK Kh ![1, 3, 0, 0] inb_S2x4x128x64_S1x1x128x64_1_3_0_0) (headV Vh ![1, 3, 0, 0] inb_S2x4x128x64_S1x1x128x64_1_3_0_0) Wo

end Product

/-- What is stored as the product is the product itself. -/
theorem pay28_eq (v : FVec F S256x512 .f32) : k0_pay28 v = v := shapeCast_self _ _

/-- Round 0 stores, on 128 rows, the sum of the rows kept and the rows that landed. -/
theorem pay29_eq (lo : ℕ) (A B : Vec F S256x512 .f32) : k0_pay29 (win lo 128 A) (win3 lo 128 B) = win lo 128 (addf A B) := by
  refine (shapeCast_self _ _).trans ?_
  exact congrArg (addf (win lo 128 A)) (cast_win3 (n := 128) B shapeCasts_S1x128x512_S128x512)
/-- So does round 1 on 64 rows, -/
theorem pay30_eq (lo : ℕ) (A B : Vec F S256x512 .f32) : k0_pay30 (win lo 64 A) (win3 lo 64 B) = win lo 64 (addf A B) := by
  refine (shapeCast_self _ _).trans ?_
  exact congrArg (addf (win lo 64 A)) (cast_win3 (n := 64) B shapeCasts_S1x64x512_S64x512)
/-- round 2 on 32, -/
theorem pay31_eq (lo : ℕ) (A B : Vec F S256x512 .f32) : k0_pay31 (win lo 32 A) (win3 lo 32 B) = win lo 32 (addf A B) := by
  refine (shapeCast_self _ _).trans ?_
  exact congrArg (addf (win lo 32 A)) (cast_win3 (n := 32) B shapeCasts_S1x32x512_S32x512)
/-- round 3 on 16, -/
theorem pay32_eq (lo : ℕ) (A B : Vec F S256x512 .f32) : k0_pay32 (win lo 16 A) (win3 lo 16 B) = win lo 16 (addf A B) := by
  refine (shapeCast_self _ _).trans ?_
  exact congrArg (addf (win lo 16 A)) (cast_win3 (n := 16) B shapeCasts_S1x16x512_S16x512)
/-- and round 4 on 8. -/
theorem pay33_eq (lo : ℕ) (A B : Vec F S256x512 .f32) : k0_pay33 (win lo 8 A) (win3 lo 8 B) = win lo 8 (addf A B) := by
  refine (shapeCast_self _ _).trans ?_
  exact congrArg (addf (win lo 8 A)) (cast_win3 (n := 8) B shapeCasts_S1x8x512_S8x512)

/-! ## Whole buffers -/

section WholeBuf

variable (c : Dev nD) {cs : CoreSpace} {i : Fin (sig.nNear .tc cs)} {hκ : sig.names .tc cs i = true}

/-- A load from a buffer that is held whole reads it and leaves it as it was. -/
theorem load_any {Q : PUnit.{1} → sProp 𝕄} {r : LoadRect (⟨cs, i, hκ⟩ : Ref sig .tc).ty.shape} {hl} {k : (Vec F ⟨_, r.size⟩ (⟨cs, i, hκ⟩ : Ref sig .tc).ty.elt) → Prog (TpuEff nD τ sig (Elt F) Λ₀ .tc) PUnit.{1}}
    (f : Buf (Elt F) ((c : Thread nD τ).loc (⟨cs, i, hκ⟩ : Ref sig .tc))) :
    (((c : Thread nD τ).loc (⟨cs, i, hκ⟩ : Ref sig .tc)) ↦{fullShare} f : sProp 𝕄)
      ⊢ iprop(((((c : Thread nD τ).loc (⟨cs, i, hκ⟩ : Ref sig .tc)) ↦{fullShare} f) -∗ run c (k ((Memref.whole ⟨cs, i, hκ⟩).view.readAt (Elt F) r f)) Q)
        -∗ run c (.op (.load (Memref.whole ⟨cs, i, hκ⟩) r hl) k) Q) :=
  wp_load (defs := defs₀ (F := F)) (Γ := .empty) (Q := Q) 𝒱₀ (c : Thread nD τ) none Set.univ (m := Memref.whole ⟨cs, i, hκ⟩) (r := r)
    (hl := hl) (k := k) (S := Finset.univ) (q := fullShare) (f := f) (Finset.subset_univ _)

end WholeBuf

/-- A load of all of the staged activations is their contents; -/
theorem read_X {off : Fin 3 → ℕ} (ho : off = fun _ => 0) (inb : ∀ a, off a + S2x128x512.size a ≤ S2x128x512.size a) (f : Vec F S2x128x512 .f32) :
    (Memref.whole cc0_stg0_0).view.readAt (Elt F) (Rect.unit (s := S2x128x512) off S2x128x512.size inb).toLoadRect f = f := by
  subst ho; exact Memref.readAt_whole (Elt F) cc0_stg0_0 f
/-- so is one of the staged query weights -/
theorem read_Wq {off : Fin 2 → ℕ} (ho : off = fun _ => 0) (inb : ∀ a, off a + S512x256.size a ≤ S512x256.size a) (f : Vec F S512x256 .f32) :
    (Memref.whole cc0_stg1_0).view.readAt (Elt F) (Rect.unit (s := S512x256) off S512x256.size inb).toLoadRect f = f := by
  subst ho; exact Memref.readAt_whole (Elt F) cc0_stg1_0 f
/-- and one of the staged output weights. -/
theorem read_Wo {off : Fin 2 → ℕ} (ho : off = fun _ => 0) (inb : ∀ a, off a + S256x512.size a ≤ S256x512.size a) (f : Vec F S256x512 .f32) :
    (Memref.whole cc0_stg4_0).view.readAt (Elt F) (Rect.unit (s := S256x512) off S256x512.size inb).toLoadRect f = f := by
  subst ho; exact Memref.readAt_whole (Elt F) cc0_stg4_0 f
/-- A store over all of the staged result leaves what is stored. -/
theorem write_out {off : Fin 3 → ℕ} (ho : off = fun _ => 0) (inb : ∀ a, off a + S2x128x512.size a ≤ S2x128x512.size a) (f w : Vec F S2x128x512 .f32) :
    ((Memref.whole cc0_stg5_0).access (Rect.unit (s := S2x128x512) off S2x128x512.size inb)).write (Elt F) f w Finset.univ = w := by
  subst ho; exact Memref.write_access_whole_univ (Elt F) cc0_stg5_0 f w

/-- The step that stores the result. -/
theorem store_out (c : Dev nD) {Q : PUnit.{1} → sProp 𝕄} {off : Fin 3 → ℕ} {inb : ∀ a, off a + S2x128x512.size a ≤ S2x128x512.size a} {hx hm}
    {k : PUnit → Prog (TpuEff nD τ sig (Elt F) Λ₀ .tc) PUnit.{1}} (f w : Vec F S2x128x512 .f32) (ho : off = fun _ => 0 := by decide) :
    (((c : Thread nD τ).loc cc0_stg5_0) ↦{fullShare} f : sProp 𝕄)
      ⊢ iprop(((((c : Thread nD τ).loc cc0_stg5_0) ↦{fullShare} w) -∗ run c (k ⟨⟩) Q)
        -∗ run c (.op (.store (Memref.whole cc0_stg5_0) (Rect.unit (s := S2x128x512) off S2x128x512.size inb) w Finset.univ hx hm) k) Q) := by
  have h := wp_store (defs := defs₀ (F := F)) (Γ := .empty) (Q := Q) 𝒱₀ (c : Thread nD τ) none Set.univ (m := Memref.whole cc0_stg5_0) (r := Rect.unit (s := S2x128x512) off S2x128x512.size inb)
    (w := w) (Mk := Finset.univ) (hx := hx) (hm := hm) (k := k) (S := Finset.univ) (f := f) (Finset.subset_univ _)
  rw [write_out ho inb f w] at h
  exact h

/-- The origin of two axes, as the program writes it, is zero everywhere, -/
theorem zero2 : (![0, 0] : Fin 2 → ℕ) = fun _ => 0 := by decide
/-- and so is that of three. -/
theorem zero3 : (![0, 0, 0] : Fin 3 → ℕ) = fun _ => 0 := by decide

/-- All 256 rows of an array are the array. -/
theorem win_all (A : Vec F S256x512 .f32) : win 0 256 A = A := by
  funext x
  show A (at2 (0 + (x 0).val) (x 1)) = A x
  exact congrArg A (at2_eq (show S256x512.Idx from x) _ (Nat.zero_add _).symm)

/-! ## The receive slots -/

section Slots

variable (c : Dev nD)

/-- The slots' elements after the first `n` rounds' are taken out. -/
def restS : ℕ → Finset S5x128x512.Idx
  | 0 => Finset.univ
  | n + 1 => restS n \ slab n (half (Fin.ofNat 5 n))

/-- An element in none of the first `n` slots is in the rest. -/
theorem mem_restS (n : ℕ) (i : S5x128x512.Idx) (h : ∀ m < n, (i 0).val ≠ m) : i ∈ restS n := by
  induction n with
  | zero => exact Finset.mem_univ _
  | succ n ih =>
    refine Finset.mem_sdiff.mpr ⟨ih fun m hm => h m (by omega), fun hi => h n (by omega) ?_⟩
    exact (mem_slab.mp hi).1

/-- The rows round `r` uses of its slot are among the rest before that round. -/
theorem slab_sub (r : Fin 5) : slab r.val (half r) ⊆ restS r.val := fun i hi =>
  mem_restS _ i fun m hm => by have := (mem_slab.mp hi).1; omega

/-- The rows of slot `r` that round `r` uses can be taken out of the rest, -/
theorem take_slab (r : Fin 5) : iprop(∃ f, slotPts (F := F) c (restS r.val) f)
    ⊢ iprop((∃ f, slotPts c (slab r.val (half r)) f) ∗ ∃ f, slotPts c (restS (r.val + 1)) f) := by
  have e : restS (r.val + 1) = restS r.val \ slab r.val (half r) := by
    show restS r.val \ slab r.val (half (Fin.ofNat 5 r.val)) = _
    rw [show Fin.ofNat 5 r.val = r from Fin.ext (Nat.mod_eq_of_lt r.isLt)]
  rw [e]
  iintro ⟨%f, H⟩
  icases (pointsTo_split_subset (slab_sub r)).1 $$ H with ⟨H, H'⟩
  isplitl [H] <;> iexists _ <;> iassumption

/-- and put back. -/
theorem put_slab (r : Fin 5) : iprop((∃ f, slotPts (F := F) c (slab r.val (half r)) f) ∗ ∃ f, slotPts c (restS (r.val + 1)) f)
    ⊢ iprop(∃ f, slotPts c (restS r.val) f) := by
  have e : restS (r.val + 1) = restS r.val \ slab r.val (half r) := by
    show restS r.val \ slab r.val (half (Fin.ofNat 5 r.val)) = _
    rw [show Fin.ofNat 5 r.val = r from Fin.ext (Nat.mod_eq_of_lt r.isLt)]
  rw [e]
  iintro ⟨⟨%f, H⟩, ⟨%g, H'⟩⟩
  iexists _
  iapply (pointsTo_join_subset (slab_sub r))
  isplitl [H] <;> iassumption

/-- What the five rounds fill of the slots, and what they leave. -/
def slots : sProp 𝕄 :=
  iprop((∃ f, slotPts (F := F) c (slab (0 : Fin 5).val (half 0)) f) ∗ (∃ f, slotPts c (slab (1 : Fin 5).val (half 1)) f)
    ∗ (∃ f, slotPts c (slab (2 : Fin 5).val (half 2)) f) ∗ (∃ f, slotPts c (slab (3 : Fin 5).val (half 3)) f)
    ∗ (∃ f, slotPts c (slab (4 : Fin 5).val (half 4)) f) ∗ ∃ f, slotPts c (restS 5) f)

/-- Held whole, the slots can be cut into those of the five rounds and a rest, -/
theorem take_slabs : iprop(∃ f, slotPts (F := F) c Finset.univ f) ⊢ slots c :=
  (take_slab c 0).trans (sep_mono_right ((take_slab c 1).trans (sep_mono_right ((take_slab c 2).trans (sep_mono_right
    ((take_slab c 3).trans (sep_mono_right (take_slab c 4))))))))

/-- and joined again. -/
theorem put_slabs : slots (F := F) c ⊢ iprop(∃ f, slotPts (F := F) c Finset.univ f) :=
  (sep_mono_right ((sep_mono_right ((sep_mono_right ((sep_mono_right (put_slab c 4)).trans (put_slab c 3))).trans (put_slab c 2))).trans
    (put_slab c 1))).trans (put_slab c 0)

end Slots

/-! ## The accumulator between the rounds -/

section Between

variable (P : Dev nD → Vec F S256x512 .f32) (c : Dev nD)

/-- The whole accumulator is its 256 rows. -/
theorem acc_all (f : Vec F S256x512 .f32) : accPts c Finset.univ f = accPts c (rows 0 256) f := by rw [rows_all]

/-- The product is what the first round begins with. -/
theorem acc_first : accPts c (rows 0 256) (P c) = accPts c (rows (base (0 : Fin 5).val c) (2 * half 0)) (accN P (0 : Fin 5).val c) := rfl

/-- A round hands over half as many rows as the one before. -/
theorem half_next (r r' : Fin 5) (h : r'.val = r.val + 1) : half r = 2 * half r' := by revert r r'; decide

/-- The rows kept in a round are those the next one splits. -/
theorem acc_next (r r' : Fin 5) (h : r'.val = r.val + 1) : accPts c (rows (keep r c) (half r)) (accN P (r.val + 1) c)
    = accPts c (rows (base r'.val c) (2 * half r')) (accN P r'.val c) := by
  rw [h, half_next r r' h]

/-- After the last round the rows kept have the result. -/
theorem acc_last : accPts c (rows (keep 4 c) (half 4)) (accN P ((4 : Fin 5).val + 1) c) = accPts c (rows (keep 4 c) (half 4)) (outA P) :=
  pointsTo_congr (outA_last P c)

/-- The rows a step back has joined are those the next step back hands out. -/
theorem acc_back (r r' : Fin 5) (h : r'.val = r.val + 1) : accPts c (rows (base r'.val c) (2 * half r')) (outA P)
    = accPts c (rows (keep r c) (half r)) (outA P) := by
  rw [h, half_next r r' h]

/-- After the last step back all 256 rows have the result. -/
theorem acc_end : accPts c (rows (base (0 : Fin 5).val c) (2 * half 0)) (outA P) = accPts c (rows 0 256) (outA P) := rfl

end Between

/-! ## The barrier -/

/-- What is held for each of five rounds, written out, -/
theorem bigSep5 {M : Type} [URA M] (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ
/-- and for each of ten transfers. -/
theorem bigSep10 {M : Type} [URA M] (Φ : Fin 10 → sProp M) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

section Barrier

variable (P : Dev nD → Vec F S256x512 .f32) (K : GSem nD τ sig → ℕ) (c : Dev nD)
  {k : PUnit → Prog (TpuEff nD τ sig (Elt F) Λ₀ .tc) PUnit.{1}}

/-- Signalling the partner of round `r`: that round's slot, and that the device's own cells are ready, go with the unit. -/
theorem signal_bar {Q : PUnit.{1} → sProp 𝕄} (r : Fin 5) {t : Dev nD} (ht : t = peer r c) {s : Sem sig} (hs : s = barS) {z : ℤ} (hz : z = ((1 : ℕ) : ℤ)) :
    iprop(recs P K ∗ due c (dueR 0 c + dueB r.val c) ∗ dutyTok ER (barCell (peer r c)) 0 r
        ∗ (∃ f, slotPts c (slab r.val (half r)) f) ∗ reached ER (recvCell c (down r)) 0 ∗ reached ER (recvCell c (back r)) 0)
      ⊢ iprop((due c (dueR 0 c + dueB (r.val + 1) c) -∗ run c (k ⟨⟩) Q) -∗ run c (.op (.semSignal ((t, .tc) : Thread nD τ) s z) k) Q) := by
  subst ht hs hz
  unfold due
  iintro ⟨#HR, ⟨%W, Ho⟩, Ht, Hs, #Hr, #Hr'⟩ Hk
  have h := Rounds.wp_signal (defs := defs₀ (F := F)) (Γ := .empty) (Q := Q) (k := k) 𝒱₀ ER (talk P) (c : Thread nD τ) none (dst := (peer r c : Thread nD τ)) (sem := barS) (r := 0) (d := r)
    (κ := K (barCell (peer r c))) (by rw [duties_bar]; exact Finset.mem_univ _) (amount_bar P (peer r c) r) () (O₀ := dueR 0 c + dueB r.val c) (dueR 0 c + dueB (r.val + 1) c)
    (by rw [dueB_step, add_assoc]) (W := W) (Es := Set.univ)
  rw [payload_bar] at h
  unfold barPay at h
  rw [peer_peer] at h
  iapply h $$ [Ho Ht Hs]
  · isplitl []
    · iapply (recs_inv P K (bar_mem (peer r c))); iexact HR
    · iframe
      isplitl []
      · isplitl [] <;> iassumption
      · iapply (recs_reached P K (peer r c)); iexact HR
  · iintro Ho
    iapply Hk
    iexists _; iexact Ho

/-- Waiting for the five partners' units. -/
theorem wait_bar {Q : PUnit.{1} → sProp 𝕄} {s : Sem sig} (hs : s = barS) {z : ℤ} (hz : z = ((5 : ℕ) : ℤ)) :
    iprop(recs P K ∗ levAts L lv ∗ cred (tallyAt (barCell c) () 5) ∗ due c (dueR 0 c) ∗ atPos ER (barCell c) 0 ∅ 0)
      ⊢ iprop(((due c (dueR 0 c) ∗ atPos ER (barCell c) 1 ∅ 0 ∗ bigSep Finset.univ (fun r => barPay (F := F) c r)) -∗ run c (k ⟨⟩) Q)
        -∗ run c (.op (.semWait s z) k) Q) := by
  subst hs hz
  unfold due
  iintro ⟨#HR, #HL, Hc, ⟨%W, Ho⟩, Ha⟩ Hk
  have h := Rounds.wp_wait_rest_token (defs := defs₀ (F := F)) (Γ := .empty) (Q := Q) (k := k) 𝒱₀ ER (talk P) (c : Thread nD τ) none (κ := K (barCell c))
    (wpE_semWait_eq (sem := barS) (k := 5) 𝒱₀ (c : Thread nD τ) none Set.univ) (Set.mem_univ _) () (O := dueR 0 c) (W := W) (R := 0) (m := 0) (T := ∅)
    (by rw [expect_bar])
  rw [rest_bar] at h
  iapply h $$ [Hc Ho Ha]
  · isplitl []
    · iapply (recs_inv P K (bar_mem c)); iexact HR
    · iframe
      iapply (mayWait_bar c); iexact HL
  · iintro ⟨Ho, Ha, -, Hp⟩
    iapply Hk
    iframe
    iexists _; iexact Ho

end Barrier

/-! ## What the body starts from and ends with -/

/-- A device at entry: all it owes, its cells, its duties, and its two scratch buffers. -/
def start (c : Dev nD) : sProp 𝕄 :=
  iprop(due c (O₀ c) ∗ (atPos ER (barCell c) 0 ∅ 0 ∗ cred (tallyAt (barCell c) () 5))
    ∗ (bigSep Finset.univ fun r : Fin 5 => dutyTok ER (barCell (peer r c)) 0 r)
    ∗ (bigSep Finset.univ fun j : Fin 10 => mine c j) ∗ (bigSep Finset.univ fun j : Fin 10 => reached ER (recvCell c j) 0)
    ∗ (∃ f, accPts c Finset.univ f) ∗ ∃ f, slotPts c Finset.univ f)

/-- A device at exit: nothing owed, every cell past its round, the scratch buffers back. -/
def finish (c : Dev nD) : sProp 𝕄 :=
  iprop(due c 0 ∗ atPos ER (barCell c) 1 ∅ 0 ∗ (bigSep Finset.univ fun j : Fin 10 => done c j)
    ∗ (∃ f, accPts c Finset.univ f) ∗ ∃ f, slotPts c Finset.univ f)

end Cert.KernelIdeal.Hyper

end
-- ==== Proof.KernelIdeal.Run.lean ====
/- The kernel body run from entry to exit. -/
module

public import proofs.«01_k».proof.Proof.KernelIdeal.Body

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The printed body on the buffers and semaphores the call names. -/
abbrev theBody : Prog (TpuEff nD τ sig (Elt F) Λ₀ .tc) PUnit.{1} :=
  cc0_body (Memref.whole cc0_stg0_0) (hstage0_0 0) (Memref.whole cc0_stg1_0) (hstage0_1 0) (Memref.whole cc0_stg2_0) (hstage0_2 0)
    (Memref.whole cc0_stg3_0) (hstage0_3 0) (Memref.whole cc0_stg4_0) (hstage0_4 0) (Memref.whole cc0_stg5_0) (hstage0_5 0)
    (Memref.whole cc0_scratch0) (Memref.isWhole_whole _) (Memref.whole cc0_scratch1) (Memref.isWhole_whole _) cc0_scratch2 cc0_scratch3

section Run

variable (X : Vec F S2x128x512 .f32) (Wq : Vec F S512x256 .f32) (Kh Vh : Vec F S2x4x128x64 .f32) (Wo : Vec F S256x512 .f32)

/-- What a device's staged inputs are. -/
def inputs (c : Dev nD) : sProp 𝕄 :=
  iprop((((c : Thread nD τ).loc cc0_stg0_0) ↦{fullShare} X) ∗ (((c : Thread nD τ).loc cc0_stg1_0) ↦{fullShare} Wq)
    ∗ (((c : Thread nD τ).loc cc0_stg2_0) ↦{fullShare} Kh) ∗ (((c : Thread nD τ).loc cc0_stg3_0) ↦{fullShare} Vh)
    ∗ (((c : Thread nD τ).loc cc0_stg4_0) ↦{fullShare} Wo))

set_option maxHeartbeats 4000000 in
/-- The body of the kernel, run by a device that holds its inputs and what it starts with: it ends with its inputs
    unchanged and the result of the exchange in the staged result. -/
theorem body_run (P : Dev nD → Vec F S256x512 .f32) (K : GSem nD τ sig → ℕ) (c : Dev nD) (hP : P c = product X Wq Kh Vh Wo) (g : Vec F S2x128x512 .f32) {Q : PUnit.{1} → sProp 𝕄} :
    iprop(recs P K ∗ levAts L lv ∗ start c ∗ inputs X Wq Kh Vh Wo c ∗ (((c : Thread nD τ).loc cc0_stg5_0) ↦{fullShare} g))
      ⊢ iprop(((finish c ∗ inputs X Wq Kh Vh Wo c ∗ (((c : Thread nD τ).loc cc0_stg5_0) ↦{fullShare} (k0_pay1 (outA P)))) -∗ Q ⟨⟩)
        -∗ run c theBody Q) := by
  unfold theBody
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold start inputs
  rw [bigSep5, bigSep10, bigSep10]
  iintro ⟨#HR, #HL, ⟨Ho, ⟨Hbar, Hcb⟩, ⟨Hb0, Hb1, Hb2, Hb3, Hb4⟩, ⟨Hm0, Hm1, Hm2, Hm3, Hm4, Hm5, Hm6, Hm7, Hm8, Hm9⟩, ⟨#Hr0, #Hr1, #Hr2, #Hr3, #Hr4, #Hr5, #Hr6, #Hr7, #Hr8, #Hr9⟩, ⟨%a, Hacc⟩, Hslot⟩, ⟨HX, HWq, HK, HV, HWo⟩, Hout⟩ Hk
  ihave Hslot := (take_slabs c) $$ Hslot
  unfold slots
  icases Hslot with ⟨Hs0, Hs1, Hs2, Hs3, Hs4, Hrest⟩
  unfold O₀
  iapply (signal_bar P K c 0 (Fin.ext (dev1_eq c)) (s := barS) rfl rfl) $$ [Ho Hb0 Hs0]
  · isplitl []; iexact HR
    isplitl [Ho]; iexact Ho
    isplitl [Hb0]; iexact Hb0
    isplitl [Hs0]; iexact Hs0
    isplitl []; iexact Hr0
    iexact Hr9
  iintro Ho
  iapply (signal_bar P K c 1 (Fin.ext (dev2_eq c)) (s := barS) rfl rfl) $$ [Ho Hb1 Hs1]
  · isplitl []; iexact HR
    isplitl [Ho]; iexact Ho
    isplitl [Hb1]; iexact Hb1
    isplitl [Hs1]; iexact Hs1
    isplitl []; iexact Hr1
    iexact Hr8
  iintro Ho
  iapply (signal_bar P K c 2 (Fin.ext (dev3_eq c)) (s := barS) rfl rfl) $$ [Ho Hb2 Hs2]
  · isplitl []; iexact HR
    isplitl [Ho]; iexact Ho
    isplitl [Hb2]; iexact Hb2
    isplitl [Hs2]; iexact Hs2
    isplitl []; iexact Hr2
    iexact Hr7
  iintro Ho
  iapply (signal_bar P K c 3 (Fin.ext (dev4_eq c)) (s := barS) rfl rfl) $$ [Ho Hb3 Hs3]
  · isplitl []; iexact HR
    isplitl [Ho]; iexact Ho
    isplitl [Hb3]; iexact Hb3
    isplitl [Hs3]; iexact Hs3
    isplitl []; iexact Hr3
    iexact Hr6
  iintro Ho
  iapply (signal_bar P K c 4 (Fin.ext (dev5_eq c)) (s := barS) rfl rfl) $$ [Ho Hb4 Hs4]
  · isplitl []; iexact HR
    isplitl [Ho]; iexact Ho
    isplitl [Hb4]; iexact Hb4
    isplitl [Hs4]; iexact Hs4
    isplitl []; iexact Hr4
    iexact Hr5
  iintro Ho
  rw [show (4 : Fin 5).val + 1 = 5 from rfl, dueB_end, add_zero]
  iapply (wait_bar P K c (s := barS) rfl rfl) $$ [Ho Hcb Hbar]
  · iframe
    isplitl [] <;> iassumption
  rw [bigSep5]
  unfold barPay
  iintro ⟨Ho, Hbar, ⟨Hp0, #Hq0, #Hq9⟩, ⟨Hp1, #Hq1, #Hq8⟩, ⟨Hp2, #Hq2, #Hq7⟩, ⟨Hp3, #Hq3, #Hq6⟩, ⟨Hp4, #Hq4, #Hq5⟩⟩
  iapply (load_any c _) $$ HX
  iintro HX
  iapply (load_any c _) $$ HWq
  iintro HWq
  iapply (load_any c _) $$ HK
  iintro HK
  iapply (load_any c _) $$ HV
  iintro HV
  iapply (load_any c _) $$ HK
  iintro HK
  iapply (load_any c _) $$ HV
  iintro HV
  iapply (load_any c _) $$ HK
  iintro HK
  iapply (load_any c _) $$ HV
  iintro HV
  iapply (load_any c _) $$ HK
  iintro HK
  iapply (load_any c _) $$ HV
  iintro HV
  iapply (load_any c _) $$ HK
  iintro HK
  iapply (load_any c _) $$ HV
  iintro HV
  iapply (load_any c _) $$ HK
  iintro HK
  iapply (load_any c _) $$ HV
  iintro HV
  iapply (load_any c _) $$ HK
  iintro HK
  iapply (load_any c _) $$ HV
  iintro HV
  iapply (load_any c _) $$ HK
  iintro HK
  iapply (load_any c _) $$ HV
  iintro HV
  iapply (load_any c _) $$ HWo
  iintro HWo
  ihave Hacc := (Entails.of_eq (acc_all c a)) $$ Hacc
  iapply (load_rows (lo := 0) (n := 256) c rfl _) $$ Hacc
  iintro Hacc
  have hprod : product ((Memref.whole cc0_stg0_0).view.readAt (Elt F) (Rect.unit (s := S2x128x512) ![0, 0, 0] S2x128x512.size inb_S2x128x512_S2x128x512_0_0_0).toLoadRect X)
      ((Memref.whole cc0_stg1_0).view.readAt (Elt F) (Rect.unit (s := S512x256) ![0, 0] S512x256.size inb_S512x256_S512x256_0_0).toLoadRect Wq) Kh Vh
      ((Memref.whole cc0_stg4_0).view.readAt (Elt F) (Rect.unit (s := S256x512) ![0, 0] S256x512.size inb_S256x512_S256x512_0_0).toLoadRect Wo) = win 0 256 (P c) := by
    rw [read_X zero3, read_Wq zero2, read_Wo zero2, win_all, hP]
  iapply (store_rows (lo := 0) (n := 256) c rfl a (P c) ((pay28_eq _).trans hprod)) $$ Hacc
  clear hprod
  iintro Hacc
  ihave Hacc := (Entails.of_eq (acc_first P c)) $$ Hacc
  iapply (down_round P K c 0 (n := 128) (src := (accM.slice (Rect.unit (s := S256x512) (k0_off1 c) S128x512.size (k0_off1_inb c)) (fun _ => rfl)))
      (dst := ((slotM.slice (Rect.unit (s := S5x128x512) ![0, 0, 0] S1x128x512.size inb_S5x128x512_S1x128x512_0_0_0) (fun _ => rfl)).squeeze S128x512 squeezes_S1x128x512_S128x512)) (wd := (accM.slice (Rect.unit (s := S256x512) (k0_off1 c) S128x512.size (k0_off1_inb c)) (fun _ => rfl)))
      (wd' := ((slotM.slice (Rect.unit (s := S5x128x512) ![0, 0, 0] S1x128x512.size inb_S5x128x512_S1x128x512_0_0_0) (fun _ => rfl)).squeeze S128x512 squeezes_S1x128x512_S128x512))
      (s₁ := ((SemArray.slice cc0_scratch2 (Rect.unit (s := S10) ![0] S1.size inb_S10_S1_0)).squeeze S_ squeezes_S1_S_).sem) (s₂ := ((SemArray.slice cc0_scratch3 (Rect.unit (s := S10) ![0] S1.size inb_S10_S1_0)).squeeze S_ squeezes_S1_S_).sem) (s₃ := ((SemArray.slice cc0_scratch2 (Rect.unit (s := S10) ![0] S1.size inb_S10_S1_0)).squeeze S_ squeezes_S1_S_).sem) (s₄ := ((SemArray.slice cc0_scratch3 (Rect.unit (s := S10) ![0] S1.size inb_S10_S1_0)).squeeze S_ squeezes_S1_S_).sem)
      (Fin.ext (dev6_eq c)) rfl (off1_eq c) (off2_eq c) (rv := 0) rfl (inb := k0_off1_inb c) (inb' := inb_S5x128x512_S1x128x512_0_0_0) (hn := squeezes_S1x128x512_S128x512.numel_eq) rfl rfl rfl rfl rfl rfl rfl rfl pay29_eq) $$ [Ho Hm0 Hp0 Hacc]
  · isplitl []; iexact HR
    isplitl []; iexact HL
    isplitl [Ho]; iexact Ho
    isplitl [Hm0]; iexact Hm0
    isplitl [Hp0]; iexact Hp0
    isplitl []; iexact Hq0
    iexact Hacc
  iintro ⟨Ho, Hm0, Hs0, Hp0, Hacc⟩
  ihave Hacc := (Entails.of_eq (acc_next P c 0 1 rfl)) $$ Hacc
  iapply (down_round P K c 1 (n := 64) (src := (accM.slice (Rect.unit (s := S256x512) (k0_off3 c) S64x512.size (k0_off3_inb c)) (fun _ => rfl)))
      (dst := ((slotM.slice (Rect.unit (s := S5x128x512) ![1, 0, 0] S1x64x512.size inb_S5x128x512_S1x64x512_1_0_0) (fun _ => rfl)).squeeze S64x512 squeezes_S1x64x512_S64x512)) (wd := (accM.slice (Rect.unit (s := S256x512) (k0_off3 c) S64x512.size (k0_off3_inb c)) (fun _ => rfl)))
      (wd' := ((slotM.slice (Rect.unit (s := S5x128x512) ![1, 0, 0] S1x64x512.size inb_S5x128x512_S1x64x512_1_0_0) (fun _ => rfl)).squeeze S64x512 squeezes_S1x64x512_S64x512))
      (s₁ := ((SemArray.slice cc0_scratch2 (Rect.unit (s := S10) ![1] S1.size inb_S10_S1_1)).squeeze S_ squeezes_S1_S_).sem) (s₂ := ((SemArray.slice cc0_scratch3 (Rect.unit (s := S10) ![1] S1.size inb_S10_S1_1)).squeeze S_ squeezes_S1_S_).sem) (s₃ := ((SemArray.slice cc0_scratch2 (Rect.unit (s := S10) ![1] S1.size inb_S10_S1_1)).squeeze S_ squeezes_S1_S_).sem) (s₄ := ((SemArray.slice cc0_scratch3 (Rect.unit (s := S10) ![1] S1.size inb_S10_S1_1)).squeeze S_ squeezes_S1_S_).sem)
      (Fin.ext (dev7_eq c)) rfl (off3_eq c) (off4_eq c) (rv := 1) rfl (inb := k0_off3_inb c) (inb' := inb_S5x128x512_S1x64x512_1_0_0) (hn := squeezes_S1x64x512_S64x512.numel_eq) rfl rfl rfl rfl rfl rfl rfl rfl pay30_eq) $$ [Ho Hm1 Hp1 Hacc]
  · isplitl []; iexact HR
    isplitl []; iexact HL
    isplitl [Ho]; iexact Ho
    isplitl [Hm1]; iexact Hm1
    isplitl [Hp1]; iexact Hp1
    isplitl []; iexact Hq1
    iexact Hacc
  iintro ⟨Ho, Hm1, Hs1, Hp1, Hacc⟩
  ihave Hacc := (Entails.of_eq (acc_next P c 1 2 rfl)) $$ Hacc
  iapply (down_round P K c 2 (n := 32) (src := (accM.slice (Rect.unit (s := S256x512) (k0_off5 c) S32x512.size (k0_off5_inb c)) (fun _ => rfl)))
      (dst := ((slotM.slice (Rect.unit (s := S5x128x512) ![2, 0, 0] S1x32x512.size inb_S5x128x512_S1x32x512_2_0_0) (fun _ => rfl)).squeeze S32x512 squeezes_S1x32x512_S32x512)) (wd := (accM.slice (Rect.unit (s := S256x512) (k0_off5 c) S32x512.size (k0_off5_inb c)) (fun _ => rfl)))
      (wd' := ((slotM.slice (Rect.unit (s := S5x128x512) ![2, 0, 0] S1x32x512.size inb_S5x128x512_S1x32x512_2_0_0) (fun _ => rfl)).squeeze S32x512 squeezes_S1x32x512_S32x512))
      (s₁ := ((SemArray.slice cc0_scratch2 (Rect.unit (s := S10) ![2] S1.size inb_S10_S1_2)).squeeze S_ squeezes_S1_S_).sem) (s₂ := ((SemArray.slice cc0_scratch3 (Rect.unit (s := S10) ![2] S1.size inb_S10_S1_2)).squeeze S_ squeezes_S1_S_).sem) (s₃ := ((SemArray.slice cc0_scratch2 (Rect.unit (s := S10) ![2] S1.size inb_S10_S1_2)).squeeze S_ squeezes_S1_S_).sem) (s₄ := ((SemArray.slice cc0_scratch3 (Rect.unit (s := S10) ![2] S1.size inb_S10_S1_2)).squeeze S_ squeezes_S1_S_).sem)
      (Fin.ext (dev8_eq c)) rfl (off5_eq c) (off6_eq c) (rv := 2) rfl (inb := k0_off5_inb c) (inb' := inb_S5x128x512_S1x32x512_2_0_0) (hn := squeezes_S1x32x512_S32x512.numel_eq) rfl rfl rfl rfl rfl rfl rfl rfl pay31_eq) $$ [Ho Hm2 Hp2 Hacc]
  · isplitl []; iexact HR
    isplitl []; iexact HL
    isplitl [Ho]; iexact Ho
    isplitl [Hm2]; iexact Hm2
    isplitl [Hp2]; iexact Hp2
    isplitl []; iexact Hq2
    iexact Hacc
  iintro ⟨Ho, Hm2, Hs2, Hp2, Hacc⟩
  ihave Hacc := (Entails.of_eq (acc_next P c 2 3 rfl)) $$ Hacc
  iapply (down_round P K c 3 (n := 16) (src := (accM.slice (Rect.unit (s := S256x512) (k0_off7 c) S16x512.size (k0_off7_inb c)) (fun _ => rfl)))
      (dst := ((slotM.slice (Rect.unit (s := S5x128x512) ![3, 0, 0] S1x16x512.size inb_S5x128x512_S1x16x512_3_0_0) (fun _ => rfl)).squeeze S16x512 squeezes_S1x16x512_S16x512)) (wd := (accM.slice (Rect.unit (s := S256x512) (k0_off7 c) S16x512.size (k0_off7_inb c)) (fun _ => rfl)))
      (wd' := ((slotM.slice (Rect.unit (s := S5x128x512) ![3, 0, 0] S1x16x512.size inb_S5x128x512_S1x16x512_3_0_0) (fun _ => rfl)).squeeze S16x512 squeezes_S1x16x512_S16x512))
      (s₁ := ((SemArray.slice cc0_scratch2 (Rect.unit (s := S10) ![3] S1.size inb_S10_S1_3)).squeeze S_ squeezes_S1_S_).sem) (s₂ := ((SemArray.slice cc0_scratch3 (Rect.unit (s := S10) ![3] S1.size inb_S10_S1_3)).squeeze S_ squeezes_S1_S_).sem) (s₃ := ((SemArray.slice cc0_scratch2 (Rect.unit (s := S10) ![3] S1.size inb_S10_S1_3)).squeeze S_ squeezes_S1_S_).sem) (s₄ := ((SemArray.slice cc0_scratch3 (Rect.unit (s := S10) ![3] S1.size inb_S10_S1_3)).squeeze S_ squeezes_S1_S_).sem)
      (Fin.ext (dev9_eq c)) rfl (off7_eq c) (off8_eq c) (rv := 3) rfl (inb := k0_off7_inb c) (inb' := inb_S5x128x512_S1x16x512_3_0_0) (hn := squeezes_S1x16x512_S16x512.numel_eq) rfl rfl rfl rfl rfl rfl rfl rfl pay32_eq) $$ [Ho Hm3 Hp3 Hacc]
  · isplitl []; iexact HR
    isplitl []; iexact HL
    isplitl [Ho]; iexact Ho
    isplitl [Hm3]; iexact Hm3
    isplitl [Hp3]; iexact Hp3
    isplitl []; iexact Hq3
    iexact Hacc
  iintro ⟨Ho, Hm3, Hs3, Hp3, Hacc⟩
  ihave Hacc := (Entails.of_eq (acc_next P c 3 4 rfl)) $$ Hacc
  iapply (down_round P K c 4 (n := 8) (src := (accM.slice (Rect.unit (s := S256x512) (k0_off9 c) S8x512.size (k0_off9_inb c)) (fun _ => rfl)))
      (dst := ((slotM.slice (Rect.unit (s := S5x128x512) ![4, 0, 0] S1x8x512.size inb_S5x128x512_S1x8x512_4_0_0) (fun _ => rfl)).squeeze S8x512 squeezes_S1x8x512_S8x512)) (wd := (accM.slice (Rect.unit (s := S256x512) (k0_off9 c) S8x512.size (k0_off9_inb c)) (fun _ => rfl)))
      (wd' := ((slotM.slice (Rect.unit (s := S5x128x512) ![4, 0, 0] S1x8x512.size inb_S5x128x512_S1x8x512_4_0_0) (fun _ => rfl)).squeeze S8x512 squeezes_S1x8x512_S8x512))
      (s₁ := ((SemArray.slice cc0_scratch2 (Rect.unit (s := S10) ![4] S1.size inb_S10_S1_4)).squeeze S_ squeezes_S1_S_).sem) (s₂ := ((SemArray.slice cc0_scratch3 (Rect.unit (s := S10) ![4] S1.size inb_S10_S1_4)).squeeze S_ squeezes_S1_S_).sem) (s₃ := ((SemArray.slice cc0_scratch2 (Rect.unit (s := S10) ![4] S1.size inb_S10_S1_4)).squeeze S_ squeezes_S1_S_).sem) (s₄ := ((SemArray.slice cc0_scratch3 (Rect.unit (s := S10) ![4] S1.size inb_S10_S1_4)).squeeze S_ squeezes_S1_S_).sem)
      (Fin.ext (dev10_eq c)) rfl (off9_eq c) (off10_eq c) (rv := 4) rfl (inb := k0_off9_inb c) (inb' := inb_S5x128x512_S1x8x512_4_0_0) (hn := squeezes_S1x8x512_S8x512.numel_eq) rfl rfl rfl rfl rfl rfl rfl rfl pay33_eq) $$ [Ho Hm4 Hp4 Hacc]
  · isplitl []; iexact HR
    isplitl []; iexact HL
    isplitl [Ho]; iexact Ho
    isplitl [Hm4]; iexact Hm4
    isplitl [Hp4]; iexact Hp4
    isplitl []; iexact Hq4
    iexact Hacc
  iintro ⟨Ho, Hm4, Hs4, Hp4, Hacc⟩
  ihave Hacc := (Entails.of_eq (acc_last P c)) $$ Hacc
  iapply (back_round P K c 4 (n := 8) (src := (accM.slice (Rect.unit (s := S256x512) (k0_off11 c) S8x512.size (k0_off11_inb c)) (fun _ => rfl)))
      (dst := (accM.slice (Rect.unit (s := S256x512) (k0_off11 c) S8x512.size (k0_off11_inb c)) (fun _ => rfl))) (wd := (accM.slice (Rect.unit (s := S256x512) (k0_off11 c) S8x512.size (k0_off11_inb c)) (fun _ => rfl)))
      (wd' := (accM.slice (Rect.unit (s := S256x512) (k0_off11 c) S8x512.size (k0_off11_inb c)) (fun _ => rfl)))
      (s₁ := ((SemArray.slice cc0_scratch2 (Rect.unit (s := S10) ![5] S1.size inb_S10_S1_5)).squeeze S_ squeezes_S1_S_).sem) (s₂ := ((SemArray.slice cc0_scratch3 (Rect.unit (s := S10) ![5] S1.size inb_S10_S1_5)).squeeze S_ squeezes_S1_S_).sem) (s₃ := ((SemArray.slice cc0_scratch2 (Rect.unit (s := S10) ![5] S1.size inb_S10_S1_5)).squeeze S_ squeezes_S1_S_).sem) (s₄ := ((SemArray.slice cc0_scratch3 (Rect.unit (s := S10) ![5] S1.size inb_S10_S1_5)).squeeze S_ squeezes_S1_S_).sem)
      (Fin.ext (dev11_eq c)) rfl (off11_eq c) (inb := k0_off11_inb c) rfl rfl rfl rfl rfl rfl rfl rfl) $$ [Ho Hm5 Hp4 Hacc]
  · isplitl []; iexact HR
    isplitl []; iexact HL
    isplitl [Ho]; iexact Ho
    isplitl [Hm5]; iexact Hm5
    isplitl [Hp4]; iexact Hp4
    isplitl []; iexact Hq5
    iexact Hacc
  iintro ⟨Ho, Hm5, Hacc⟩
  ihave Hacc := (Entails.of_eq (acc_back P c 3 4 rfl)) $$ Hacc
  iapply (back_round P K c 3 (n := 16) (src := (accM.slice (Rect.unit (s := S256x512) (k0_off12 c) S16x512.size (k0_off12_inb c)) (fun _ => rfl)))
      (dst := (accM.slice (Rect.unit (s := S256x512) (k0_off12 c) S16x512.size (k0_off12_inb c)) (fun _ => rfl))) (wd := (accM.slice (Rect.unit (s := S256x512) (k0_off12 c) S16x512.size (k0_off12_inb c)) (fun _ => rfl)))
      (wd' := (accM.slice (Rect.unit (s := S256x512) (k0_off12 c) S16x512.size (k0_off12_inb c)) (fun _ => rfl)))
      (s₁ := ((SemArray.slice cc0_scratch2 (Rect.unit (s := S10) ![6] S1.size inb_S10_S1_6)).squeeze S_ squeezes_S1_S_).sem) (s₂ := ((SemArray.slice cc0_scratch3 (Rect.unit (s := S10) ![6] S1.size inb_S10_S1_6)).squeeze S_ squeezes_S1_S_).sem) (s₃ := ((SemArray.slice cc0_scratch2 (Rect.unit (s := S10) ![6] S1.size inb_S10_S1_6)).squeeze S_ squeezes_S1_S_).sem) (s₄ := ((SemArray.slice cc0_scratch3 (Rect.unit (s := S10) ![6] S1.size inb_S10_S1_6)).squeeze S_ squeezes_S1_S_).sem)
      (Fin.ext (dev12_eq c)) rfl (off12_eq c) (inb := k0_off12_inb c) rfl rfl rfl rfl rfl rfl rfl rfl) $$ [Ho Hm6 Hp3 Hacc]
  · isplitl []; iexact HR
    isplitl []; iexact HL
    isplitl [Ho]; iexact Ho
    isplitl [Hm6]; iexact Hm6
    isplitl [Hp3]; iexact Hp3
    isplitl []; iexact Hq6
    iexact Hacc
  iintro ⟨Ho, Hm6, Hacc⟩
  ihave Hacc := (Entails.of_eq (acc_back P c 2 3 rfl)) $$ Hacc
  iapply (back_round P K c 2 (n := 32) (src := (accM.slice (Rect.unit (s := S256x512) (k0_off13 c) S32x512.size (k0_off13_inb c)) (fun _ => rfl)))
      (dst := (accM.slice (Rect.unit (s := S256x512) (k0_off13 c) S32x512.size (k0_off13_inb c)) (fun _ => rfl))) (wd := (accM.slice (Rect.unit (s := S256x512) (k0_off13 c) S32x512.size (k0_off13_inb c)) (fun _ => rfl)))
      (wd' := (accM.slice (Rect.unit (s := S256x512) (k0_off13 c) S32x512.size (k0_off13_inb c)) (fun _ => rfl)))
      (s₁ := ((SemArray.slice cc0_scratch2 (Rect.unit (s := S10) ![7] S1.size inb_S10_S1_7)).squeeze S_ squeezes_S1_S_).sem) (s₂ := ((SemArray.slice cc0_scratch3 (Rect.unit (s := S10) ![7] S1.size inb_S10_S1_7)).squeeze S_ squeezes_S1_S_).sem) (s₃ := ((SemArray.slice cc0_scratch2 (Rect.unit (s := S10) ![7] S1.size inb_S10_S1_7)).squeeze S_ squeezes_S1_S_).sem) (s₄ := ((SemArray.slice cc0_scratch3 (Rect.unit (s := S10) ![7] S1.size inb_S10_S1_7)).squeeze S_ squeezes_S1_S_).sem)
      (Fin.ext (dev13_eq c)) rfl (off13_eq c) (inb := k0_off13_inb c) rfl rfl rfl rfl rfl rfl rfl rfl) $$ [Ho Hm7 Hp2 Hacc]
  · isplitl []; iexact HR
    isplitl []; iexact HL
    isplitl [Ho]; iexact Ho
    isplitl [Hm7]; iexact Hm7
    isplitl [Hp2]; iexact Hp2
    isplitl []; iexact Hq7
    iexact Hacc
  iintro ⟨Ho, Hm7, Hacc⟩
  ihave Hacc := (Entails.of_eq (acc_back P c 1 2 rfl)) $$ Hacc
  iapply (back_round P K c 1 (n := 64) (src := (accM.slice (Rect.unit (s := S256x512) (k0_off14 c) S64x512.size (k0_off14_inb c)) (fun _ => rfl)))
      (dst := (accM.slice (Rect.unit (s := S256x512) (k0_off14 c) S64x512.size (k0_off14_inb c)) (fun _ => rfl))) (wd := (accM.slice (Rect.unit (s := S256x512) (k0_off14 c) S64x512.size (k0_off14_inb c)) (fun _ => rfl)))
      (wd' := (accM.slice (Rect.unit (s := S256x512) (k0_off14 c) S64x512.size (k0_off14_inb c)) (fun _ => rfl)))
      (s₁ := ((SemArray.slice cc0_scratch2 (Rect.unit (s := S10) ![8] S1.size inb_S10_S1_8)).squeeze S_ squeezes_S1_S_).sem) (s₂ := ((SemArray.slice cc0_scratch3 (Rect.unit (s := S10) ![8] S1.size inb_S10_S1_8)).squeeze S_ squeezes_S1_S_).sem) (s₃ := ((SemArray.slice cc0_scratch2 (Rect.unit (s := S10) ![8] S1.size inb_S10_S1_8)).squeeze S_ squeezes_S1_S_).sem) (s₄ := ((SemArray.slice cc0_scratch3 (Rect.unit (s := S10) ![8] S1.size inb_S10_S1_8)).squeeze S_ squeezes_S1_S_).sem)
      (Fin.ext (dev14_eq c)) rfl (off14_eq c) (inb := k0_off14_inb c) rfl rfl rfl rfl rfl rfl rfl rfl) $$ [Ho Hm8 Hp1 Hacc]
  · isplitl []; iexact HR
    isplitl []; iexact HL
    isplitl [Ho]; iexact Ho
    isplitl [Hm8]; iexact Hm8
    isplitl [Hp1]; iexact Hp1
    isplitl []; iexact Hq8
    iexact Hacc
  iintro ⟨Ho, Hm8, Hacc⟩
  ihave Hacc := (Entails.of_eq (acc_back P c 0 1 rfl)) $$ Hacc
  iapply (back_round P K c 0 (n := 128) (src := (accM.slice (Rect.unit (s := S256x512) (k0_off15 c) S128x512.size (k0_off15_inb c)) (fun _ => rfl)))
      (dst := (accM.slice (Rect.unit (s := S256x512) (k0_off15 c) S128x512.size (k0_off15_inb c)) (fun _ => rfl))) (wd := (accM.slice (Rect.unit (s := S256x512) (k0_off15 c) S128x512.size (k0_off15_inb c)) (fun _ => rfl)))
      (wd' := (accM.slice (Rect.unit (s := S256x512) (k0_off15 c) S128x512.size (k0_off15_inb c)) (fun _ => rfl)))
      (s₁ := ((SemArray.slice cc0_scratch2 (Rect.unit (s := S10) ![9] S1.size inb_S10_S1_9)).squeeze S_ squeezes_S1_S_).sem) (s₂ := ((SemArray.slice cc0_scratch3 (Rect.unit (s := S10) ![9] S1.size inb_S10_S1_9)).squeeze S_ squeezes_S1_S_).sem) (s₃ := ((SemArray.slice cc0_scratch2 (Rect.unit (s := S10) ![9] S1.size inb_S10_S1_9)).squeeze S_ squeezes_S1_S_).sem) (s₄ := ((SemArray.slice cc0_scratch3 (Rect.unit (s := S10) ![9] S1.size inb_S10_S1_9)).squeeze S_ squeezes_S1_S_).sem)
      (Fin.ext (dev15_eq c)) rfl (off15_eq c) (inb := k0_off15_inb c) rfl rfl rfl rfl rfl rfl rfl rfl) $$ [Ho Hm9 Hp0 Hacc]
  · isplitl []; iexact HR
    isplitl []; iexact HL
    isplitl [Ho]; iexact Ho
    isplitl [Hm9]; iexact Hm9
    isplitl [Hp0]; iexact Hp0
    isplitl []; iexact Hq9
    iexact Hacc
  iintro ⟨Ho, Hm9, Hacc⟩
  ihave Hacc := (Entails.of_eq (acc_end P c)) $$ Hacc
  iapply (load_rows (lo := 0) (n := 256) c rfl _) $$ Hacc
  iintro Hacc
  iapply (load_any c _) $$ Hout
  iintro Hout
  iapply (store_out c g _) $$ Hout
  iintro Hout
  have hret : (iprop(|={Set.univ}[frame]=> Q ⟨⟩) : sProp 𝕄) ⊢ run (F := F) c (Prog.ret PUnit.unit) Q := by unfold run; rw [wp_ret]
  iapply hret
  imodintro
  iapply Hk
  unfold finish
  rw [bigSep10]
  isplitl [Ho Hbar Hm0 Hm1 Hm2 Hm3 Hm4 Hm5 Hm6 Hm7 Hm8 Hm9 Hacc Hs0 Hs1 Hs2 Hs3 Hs4 Hrest]
  · ihave Hacc := (Entails.of_eq (acc_all c _).symm) $$ Hacc
    isplitl [Ho]; iapply (show due c (dueR ((back 0).val + 1) c) ⊢ due c 0 from Entails.of_eq (congrArg (due c) (dueR_end c))); iexact Ho
    isplitl [Hbar]; iexact Hbar
    isplitl [Hm0 Hm1 Hm2 Hm3 Hm4 Hm5 Hm6 Hm7 Hm8 Hm9]
    · isplitl [Hm0]; iexact Hm0
      isplitl [Hm1]; iexact Hm1
      isplitl [Hm2]; iexact Hm2
      isplitl [Hm3]; iexact Hm3
      isplitl [Hm4]; iexact Hm4
      isplitl [Hm5]; iexact Hm5
      isplitl [Hm6]; iexact Hm6
      isplitl [Hm7]; iexact Hm7
      isplitl [Hm8]; iexact Hm8
      iexact Hm9
    isplitl [Hacc]
    · iexists _; iexact Hacc
    · iapply (put_slabs c)
      unfold slots
      isplitl [Hs0]; iexact Hs0
      isplitl [Hs1]; iexact Hs1
      isplitl [Hs2]; iexact Hs2
      isplitl [Hs3]; iexact Hs3
      isplitl [Hs4]; iexact Hs4
      iexact Hrest
  · isplitl [HX HWq HK HV HWo]
    · isplitl [HX]; iexact HX
      isplitl [HWq]; iexact HWq
      isplitl [HK]; iexact HK
      isplitl [HV]; iexact HV
      iexact HWo
    · iapply (Entails.of_eq (congrArg (fun w => ((((c : Thread nD τ).loc cc0_stg5_0) ↦{fullShare} (k0_pay1 w)) : sProp 𝕄)) (win_all (outA P))))
      iexact Hout

end Run

end Cert.KernelIdeal.Hyper

end
-- ==== Proof.KernelIdeal.Region.lean ====
/- The kernel call as one item of the program: what a device brings to it from the launch, what it takes away, and the
   record that puts the body between the two. -/
module

public import proofs.«01_k».proof.Proof.KernelIdeal.Run

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The semaphores the kernel names -/

/-- A device's ten send and ten receive semaphores, in order. -/
abbrev osem : Fin 20 → SemLoc sig := fun i => .dma (ownS i)

/-- They are different semaphores of the call, and none of them stages an array. -/
theorem osem_facts : Pipeline.OwnSemFacts spec0 osem := by decide +kernel

/-- The first ten are the send semaphores -/
theorem own_send (j : Fin 10) : ownS (finSumFinEquiv (m := 10) (n := 10) (.inl j)) = sendS j := rfl
/-- and the last ten the receive semaphores. -/
theorem own_recv (j : Fin 10) : ownS (finSumFinEquiv (m := 10) (n := 10) (.inr j)) = recvS j :=
  Fin.ext (by show 6 + (10 + j.val) = 16 + j.val; omega)

/-- A property of each of a device's DMA cells is one of its send and its receive cells. -/
theorem both (Φ : SemLoc sig → sProp 𝕄) :
    bigSep Finset.univ (fun i : Fin 20 => Φ (osem i))
      = bigSep Finset.univ (fun j : Fin 10 => iprop(Φ (.dma (sendS j)) ∗ Φ (.dma (recvS j)))) := by
  rw [bigSep_univ_equiv (finSumFinEquiv (m := 10) (n := 10)), bigSep_univ_sum, bigSep_sep']
  have h1 : (fun j : Fin 10 => Φ (osem (finSumFinEquiv (m := 10) (n := 10) (.inl j)))) = fun j => Φ (.dma (sendS j)) :=
    funext fun j => by show Φ (.dma (ownS _)) = _; rw [own_send]
  have h2 : (fun j : Fin 10 => Φ (osem (finSumFinEquiv (m := 10) (n := 10) (.inr j)))) = fun j => Φ (.dma (recvS j)) :=
    funext fun j => by show Φ (.dma (ownS _)) = _; rw [own_recv]
  rw [h1, h2]
  rfl

/-- Their counters at zero, transfer by transfer. -/
theorem ownSems_eq (c : Dev nD) : (Pipeline.ownSems0 osem c : sProp 𝕄)
    = bigSep Finset.univ (fun j : Fin 10 => iprop(semVal (sendCell c j) 0 ∗ semVal (recvCell c j) 0)) :=
  both fun s => semVal ((c : Thread nD τ), s) 0

/-! ## The values -/

variable (m : (ℓ : Loc nD τ sig) → Buf (Elt F) ℓ)

/-- Device `d`'s partial product: its heads' attention against its rows of the projection. -/
def part (d : Dev nD) : Vec F S256x512 .f32 :=
  product (V1 m d main_arg0) (V1 m d main_arg1) (V1 m d main_v15) (V1 m d main_v16) (V1 m d main_arg4)

/-- What every device's result holds. -/
def result : Vec F S2x128x512 .f32 := k0_pay1 (outA (part m))

/-- The buffers of device `c` after the call. -/
abbrev Vend (c : Dev nD) : Valuation τ sig (Elt F) := Function.update (V1 m c) (Proc.devRef .tc main_v17) (result m)

/-- After the call the result has its value, -/
theorem Vend_result (c : Dev nD) : Vend m c main_v17 = result m := Function.update_self ..
/-- and every other buffer is as it was before. -/
theorem Vend_of (c : Dev nD) (r : Ref sig .tc) (h : r ∉ ([main_v17] : List (Ref sig .tc))) : Vend m c r = V1 m c r :=
  Function.update_of_ne (StableHlo.devRef_ne_of_ne (List.ne_of_not_mem_cons h) : (Proc.devRef .tc r : DevRef τ sig) ≠ Proc.devRef .tc main_v17) ..

/-! ## What is carried to the call, and what of it enters -/

/-- From the launch, for transfer `j`: the right to open its two cells, the two duties it pays, the right to wait. -/
def kept (c : Dev nD) (j : Fin 10) : sProp 𝕄 :=
  iprop((openTok ER (sendCell c j) ∗ openTok ER (recvCell c j))
    ∗ dutyTok ER (sendCell c j) 0 0 ∗ cred (tallyAt (recvCell c j) () (units j)) ∗ dutyTok ER (recvCell (peer (rd j) c) j) 0 0)

/-- What concerns the barrier. -/
def gate (c : Dev nD) : sProp 𝕄 :=
  iprop((atPos ER (barCell c) 0 ∅ 0 ∗ cred (tallyAt (barCell c) () 5))
    ∗ (bigSep Finset.univ fun r : Fin 5 => dutyTok ER (barCell (peer r c)) 0 r))

/-- All a device carries from the launch to the call, -/
def Tk (c : Dev nD) : sProp 𝕄 :=
  iprop(∃ K, recs (part m) K ∗ gate c ∗ bigSep Finset.univ fun j : Fin 10 => kept c j)

/-- and what of it enters, once the cells are open. -/
def Xk (c : Dev nD) : sProp 𝕄 :=
  iprop(∃ K, recs (part m) K ∗ levAts L lv ∗ gate c ∗ (bigSep Finset.univ fun j : Fin 10 => mine c j)
    ∗ bigSep Finset.univ fun j : Fin 10 => reached ER (recvCell c j) 0)

/-- One transfer's two cells, opened. -/
theorem open_one (K : GSem nD τ sig → ℕ) (c : Dev nD) (j : Fin 10) :
    iprop(recs (part m) K ∗ (kept c j ∗ (semVal (sendCell c j) 0 ∗ semVal (recvCell c j) 0)))
      ⊢ (|={Set.univ}=> iprop(mine c j ∗ reached ER (recvCell c j) 0) : sProp 𝕄) := by
  unfold kept mine
  iintro ⟨#HR, ⟨⟨Ho1, Ho2⟩, Hd, Hc, Hp⟩, ⟨Hs, Hr⟩⟩
  ihave #I1 := (recs_inv (part m) K (send_mem c j)) $$ HR
  ihave #I2 := (recs_inv (part m) K (recv_mem c j)) $$ HR
  imod (Rounds.cell_open ER (talk (part m)) (g := sendCell c j) (Set.mem_univ (K (sendCell c j)))) $$ [Ho1 Hs] with ⟨Ha1, #Hq1⟩
  · isplitr; · iexact I1
    isplitl [Ho1] <;> iassumption
  imod (Rounds.cell_open ER (talk (part m)) (g := recvCell c j) (Set.mem_univ (K (recvCell c j)))) $$ [Ho2 Hr] with ⟨Ha2, #Hq2⟩
  · isplitr; · iexact I2
    isplitl [Ho2] <;> iassumption
  imodintro
  isplitl
  · isplitl [Ha1 Hd]
    · isplitl [Ha1]; · iexact Ha1
      isplitr; · iexact Hq1
      iexact Hd
    isplitl [Ha2 Hc]
    · isplitl [Ha2] <;> iassumption
    iexact Hp
  iexact Hq2

/-- All cells of a device are opened from its counters at zero and from what it carries to the call. -/
theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, #HR, Hg, Hk⟩, Hs, #HL⟩
  imod (show iprop(recs (part m) K ∗ ((bigSep Finset.univ fun j : Fin 10 => kept c j)
        ∗ (bigSep Finset.univ fun j : Fin 10 => iprop(semVal (sendCell c j) 0 ∗ semVal (recvCell c j) 0))))
      ⊢ (|={Set.univ}=> bigSep Finset.univ fun j : Fin 10 => iprop(mine c j ∗ reached ER (recvCell c j) 0) : sProp 𝕄) from by
    rw [← bigSep_sep']
    exact (bigSep_with_persistent fun j _ => open_one m K c j).trans (bigSep_fupd _ _)) $$ [Hk Hs] with H
  · isplitr; · iexact HR
    isplitl [Hk] <;> iassumption
  ihave H := (Entails.of_eq (bigSep_sep' _ _ _)) $$ H
  icases H with ⟨Hm, Hr⟩
  imodintro
  iexists K
  isplitr; · iexact HR
  isplitr; · iexact HL
  isplitl [Hg]; · iexact Hg
  isplitl [Hm] <;> iassumption

/-- One transfer's two cells, closed: their counters are zero. -/
theorem close_one (K : GSem nD τ sig → ℕ) (c : Dev nD) (j : Fin 10) :
    iprop(recs (part m) K ∗ done c j) ⊢ (|={Set.univ}=> iprop(semVal (sendCell c j) 0 ∗ semVal (recvCell c j) 0) : sProp 𝕄) := by
  unfold done
  iintro ⟨#HR, H1, H2⟩
  ihave #I1 := (recs_inv (part m) K (send_mem c j)) $$ HR
  ihave #I2 := (recs_inv (part m) K (recv_mem c j)) $$ HR
  imod (Rounds.cell_close ER (talk (part m)) (g := sendCell c j) (R := 1) (Set.mem_univ (K (sendCell c j))) id (duties_later (part m) _)) $$ [H1] with Ha
  · isplitr; · iexact I1
    iexact H1
  imod (Rounds.cell_close ER (talk (part m)) (g := recvCell c j) (R := 1) (Set.mem_univ (K (recvCell c j))) id (duties_later (part m) _)) $$ [H2] with Hb
  · isplitr; · iexact I2
    iexact H2
  imodintro
  isplitl [Ha] <;> iassumption

/-- When every cell has had its round, all counters of a device are back, at zero. -/
theorem close_all (K : GSem nD τ sig → ℕ) (c : Dev nD) :
    iprop(recs (part m) K ∗ atPos ER (barCell c) 1 ∅ 0 ∗ bigSep Finset.univ fun j : Fin 10 => done c j)
      ⊢ (|={Set.univ}=> iprop(semVal (barCell c) 0 ∗ Pipeline.ownSems0 osem c) : sProp 𝕄) := by
  rw [ownSems_eq]
  iintro ⟨#HR, Hb, Hd⟩
  ihave #I1 := (recs_inv (part m) K (bar_mem c)) $$ HR
  imod (Rounds.cell_close ER (talk (part m)) (g := barCell c) (R := 1) (Set.mem_univ (K (barCell c))) id (duties_later (part m) _)) $$ [Hb] with Ha
  · isplitr; · iexact I1
    iexact Hb
  imod ((bigSep_with_persistent fun j _ => close_one m K c j).trans (bigSep_fupd _ _)) $$ [Hd] with H
  · isplitr; · iexact HR
    iexact Hd
  imodintro
  isplitl [Ha] <;> iassumption

/-! ## The call's data -/

/-- The scratch buffers at some contents. -/
def scratch (c : Dev nD) : sProp 𝕄 := iprop((∃ f, accPts c Finset.univ f) ∗ ∃ f, slotPts c Finset.univ f)

/-- Before the one grid point the device has all that enters; after it every counter is zero. -/
def dat (c : Dev nD) : Dat τ (Elt F) Unit ℕ UU ℕ cfg0 c where
  A w := V1 m c (Proc.devRef .tc (Pipeline.arrRef spec0 w))
  after w _ := match w with
    | 0 => V1 m c main_arg0
    | 1 => V1 m c main_arg1
    | 2 => V1 m c main_v15
    | 3 => V1 m c main_v16
    | 4 => V1 m c main_arg4
    | 5 => result m
    | ⟨_ + 6, h⟩ => absurd h (Nat.not_lt.2 (Nat.le_add_left _ _))
  Φ t := if t.val = 0 then iprop(Xk m c ∗ scratch c ∗ ∃ r, prngReg c r)
    else iprop((semVal (barCell c) 0 ∗ Pipeline.ownSems0 osem c) ∗ scratch c ∗ ∃ r, prngReg c r)
  q _ := fullShare
  owed t := if t.val = 0 then O₀ c else 0

/-- The record for the one call of the program. -/
abbrev pdats : (p : Fin 1) → (c : Dev nD) → Dat τ (Elt F) Unit ℕ UU ℕ (cfgs p) c := fun | 0 => dat m

/-- Before the grid point a device owes all it owes at launch, -/
theorem owed_first (c : Dev nD) : (dat m c).owed t0_0.castSucc = O₀ c := by
  show (if (t0_0.castSucc : Fin (cfg0.N + 1)).val = 0 then O₀ c else 0) = O₀ c; exact if_pos rfl
/-- and after it nothing. -/
theorem owed_last (c : Dev nD) : (dat m c).owed (Fin.last _) = 0 := by
  show (if (Fin.last cfg0.N).val = 0 then O₀ c else 0) = 0
  rw [Fin.val_last, if_neg (by rw [show cfg0.N = 1 from N_0]; decide)]

/-- The body finds the activations staged, -/
theorem before_0 (c : Dev nD) (d) : (dat m c).before 0 t0_0 d = V1 m c main_arg0 := by
  rw [Dat.before_fetched _ _ _ (fetch0_0 _)]
  funext i
  exact congrArg (V1 m c main_arg0) (funext fun a => Fin.ext (by show 0 * _ + 1 * (i a).val = (i a).val; omega))
/-- the query weights, -/
theorem before_1 (c : Dev nD) (d) : (dat m c).before 1 t0_0 d = V1 m c main_arg1 := by
  rw [Dat.before_fetched _ _ _ (fetch0_1 _)]
  funext i
  exact congrArg (V1 m c main_arg1) (funext fun a => Fin.ext (by show 0 * _ + 1 * (i a).val = (i a).val; omega))
/-- its heads' keys, -/
theorem before_2 (c : Dev nD) (d) : (dat m c).before 2 t0_0 d = V1 m c main_v15 := by
  rw [Dat.before_fetched _ _ _ (fetch0_2 _)]
  funext i
  exact congrArg (V1 m c main_v15) (funext fun a => Fin.ext (by show 0 * _ + 1 * (i a).val = (i a).val; omega))
/-- its heads' values -/
theorem before_3 (c : Dev nD) (d) : (dat m c).before 3 t0_0 d = V1 m c main_v16 := by
  rw [Dat.before_fetched _ _ _ (fetch0_3 _)]
  funext i
  exact congrArg (V1 m c main_v16) (funext fun a => Fin.ext (by show 0 * _ + 1 * (i a).val = (i a).val; omega))
/-- and the output weights. -/
theorem before_4 (c : Dev nD) (d) : (dat m c).before 4 t0_0 d = V1 m c main_arg4 := by
  rw [Dat.before_fetched _ _ _ (fetch0_4 _)]
  funext i
  exact congrArg (V1 m c main_arg4) (funext fun a => Fin.ext (by show 0 * _ + 1 * (i a).val = (i a).val; omega))

/-- After the call the result's array is what the body left of it. -/
theorem end_result (c : Dev nD) : (dat m c).arrAt 5 cfg0.N = result m := by
  have hr : ∀ f : Vec F S2x128x512 .f32, (win0_5.blk t0_0).view.read (Elt F) f = f := fun f => funext fun i =>
    congrArg f (funext fun a => Fin.ext (by show 0 * _ + 1 * (i a).val = (i a).val; omega))
  rw [← hr ((dat m c).arrAt 5 cfg0.N), show cfg0.N = t0_0.val + 1 from N_0, (dat m c).arrAt_succ (5 : Fin 6) t0_0]
  rw [show (cfg0.win (5 : Fin 6)).flush t0_0 = true from flush0_5 _, if_pos rfl]
  exact View.read_write_univ _ _

/-- An update after a run is part of it. -/
theorem run_fupd (c : Dev nD) (p : Prog (TpuEff nD τ sig (Elt F) Λ₀ .tc) PUnit.{1}) (Q : PUnit.{1} → sProp 𝕄) :
    run (F := F) c p (fun a => iprop(|={Set.univ}[frame]=> Q a)) ⊢ run c p Q := by
  unfold run; exact wp_fupd frame _ Set.univ p Q

/-- The body between the two: what it finds in the staging buffers and what it leaves there. -/
theorem body (c : Dev nD) : BodyObligation (dat m c) defs₀ 𝒱₀ () Set.univ := fun t => by
  obtain rfl := fin_N0 t
  rw [bigSep_W0, bigSep_W0]
  show iprop(iprop(Xk m c ∗ scratch c ∗ ∃ r, prngReg c r) ∗ (dat m c).owesAt () t0_0.castSucc
      ∗ (∃ d, owns c (Memref.whole cc0_stg0_0) fullShare ((dat m c).before 0 t0_0 d))
      ∗ (∃ d, owns c (Memref.whole cc0_stg1_0) fullShare ((dat m c).before 1 t0_0 d))
      ∗ (∃ d, owns c (Memref.whole cc0_stg2_0) fullShare ((dat m c).before 2 t0_0 d))
      ∗ (∃ d, owns c (Memref.whole cc0_stg3_0) fullShare ((dat m c).before 3 t0_0 d))
      ∗ (∃ d, owns c (Memref.whole cc0_stg4_0) fullShare ((dat m c).before 4 t0_0 d))
      ∗ (∃ d, owns c (Memref.whole cc0_stg5_0) fullShare ((dat m c).before 5 t0_0 d)))
    ⊢ run c theBody fun _ => iprop(iprop((semVal (barCell c) 0 ∗ Pipeline.ownSems0 osem c) ∗ scratch c ∗ ∃ r, prngReg c r)
      ∗ (dat m c).owesAt () t0_0.succ
      ∗ owns c (Memref.whole cc0_stg0_0) fullShare (V1 m c main_arg0)
      ∗ owns c (Memref.whole cc0_stg1_0) fullShare (V1 m c main_arg1)
      ∗ owns c (Memref.whole cc0_stg2_0) fullShare (V1 m c main_v15)
      ∗ owns c (Memref.whole cc0_stg3_0) fullShare (V1 m c main_v16)
      ∗ owns c (Memref.whole cc0_stg4_0) fullShare (V1 m c main_arg4)
      ∗ owns c (Memref.whole cc0_stg5_0) fullShare (result m))
  simp only [before_0, before_1, before_2, before_3, before_4, owns_whole]
  unfold Xk
  iintro ⟨⟨⟨%K, #HR, #HL, Hg, Hm, Hrr⟩, Hscr, Hp⟩, HO, ⟨%d0, H0⟩, ⟨%d1, H1⟩, ⟨%d2, H2⟩, ⟨%d3, H3⟩, ⟨%d4, H4⟩, ⟨%d5, H5⟩⟩
  unfold Dat.owesAt Pipeline.owesWithin
  rw [owed_first]
  icases HO with ⟨%W, -, HO⟩
  unfold gate scratch
  icases Hg with ⟨Hb, Hd⟩
  iapply (run_fupd c theBody _)
  iapply (body_run (V1 m c main_arg0) (V1 m c main_arg1) (V1 m c main_v15) (V1 m c main_v16) (V1 m c main_arg4) (part m) K c rfl _) $$ [Hb Hd Hm Hrr Hscr HO H0 H1 H2 H3 H4 H5]
  · isplitr; · iexact HR
    isplitr; · iexact HL
    isplitl [Hb Hd Hm Hrr Hscr HO]
    · unfold start due
      isplitl [HO]; · iexists W; iexact HO
      isplitl [Hb]; · iexact Hb
      isplitl [Hd]; · iexact Hd
      isplitl [Hm]; · iexact Hm
      isplitl [Hrr] <;> iassumption
    isplitr [H5]
    · unfold inputs; iframe
    iexact H5
  unfold finish inputs due
  iintro ⟨⟨⟨%W', HO⟩, Hb, Hd, Hscr⟩, ⟨H0, H1, H2, H3, H4⟩, H5⟩
  imod (close_all m K c) $$ [Hb Hd] with Hz
  · isplitr; · iexact HR
    isplitl [Hb] <;> iassumption
  imodintro
  isplitl [Hz Hscr Hp]
  · isplitl [Hz]; · iexact Hz
    isplitl [Hscr] <;> iassumption
  isplitl [HO]
  · iexists W'
    isplitr; · ipureintro; exact fun _ _ => Or.inl trivial
    rw [show (dat m c).owed t0_0.succ = 0 from owed_last m c]
    iexact HO
  isplitl [H0]; · iexact H0
  isplitl [H1]; · iexact H1
  isplitl [H2]; · iexact H2
  isplitl [H3]; · iexact H3
  isplitl [H4]; · iexact H4
  iexact H5

/-! ## The record -/

/-- The unscoped buffers that are no array of the call. -/
abbrev others : Finset (DevRef τ sig) := Pipeline.ucRefs τ sig \ Pipeline.arrRefs spec0

/-- What is owed at launch is owed at a level above zero. -/
theorem O₀_pos {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨j, -, rfl⟩ := dueR_pos h
    exact ⟨by rw [L_tc]; exact Finset.mem_singleton_self _, by rw [lv_recv]; omega⟩
  · obtain ⟨r, rfl⟩ := dueB_pos h
    exact ⟨by rw [L_tc]; exact Finset.mem_singleton_self _, by rw [lv_bar]; omega⟩

/-- So is what is owed at any point of the grid. -/
theorem cut_owed (c : Dev nD) (t : Fin (cfg0.N + 1)) (g : GSem nD τ sig) (i : Unit) (h : 0 < (dat m c).owed t g i) :
    i ∈ L g ∧ (0 : ℕ) < lv g i := by
  rw [show (dat m c).owed t = if t.val = 0 then O₀ c else 0 from rfl] at h
  split at h
  · exact O₀_pos h
  · exact absurd h (Nat.lt_irrefl 0)

/-- The semaphores that stage arrays are at level zero. -/
theorem stage_level (c : Dev nD) (w : Fin 6) (s : Fin (win0 w).nbuf) :
    lv ((c : Thread nD τ), .dma ((win0 w).sem s)) () ≤ 0 := by
  show (if 6 ≤ ((win0 w).sem s).val then _ else 0) ≤ 0
  rw [if_neg]
  exact Nat.not_le.mpr ((by decide +kernel : ∀ (w : Fin 6) (s : Fin (win0 w).nbuf), ((win0 w).sem s).val < 6) w s)

/-- What is owed at the first grid point, -/
theorem first_owed (c : Dev nD) : (dat m c).owed 0 = O₀ c := by
  show (if (0 : Fin (cfg0.N + 1)).val = 0 then O₀ c else 0) = O₀ c; exact if_pos rfl
/-- what is held there, -/
theorem first_Φ (c : Dev nD) : (dat m c).Φ 0 = iprop(Xk m c ∗ scratch c ∗ ∃ r, prngReg c r) := by
  show (if (0 : Fin (cfg0.N + 1)).val = 0 then iprop(Xk m c ∗ scratch c ∗ ∃ r, prngReg c r)
    else iprop((semVal (barCell c) 0 ∗ Pipeline.ownSems0 osem c) ∗ scratch c ∗ ∃ r, prngReg c r)) = _
  exact if_pos rfl
/-- and what is held after the last. -/
theorem last_Φ (c : Dev nD) : (dat m c).Φ (Fin.last cfg0.N)
    = iprop((semVal (barCell c) 0 ∗ Pipeline.ownSems0 osem c) ∗ scratch c ∗ ∃ r, prngReg c r) := by
  show (if (Fin.last cfg0.N).val = 0 then iprop(Xk m c ∗ scratch c ∗ ∃ r, prngReg c r)
    else iprop((semVal (barCell c) 0 ∗ Pipeline.ownSems0 osem c) ∗ scratch c ∗ ∃ r, prngReg c r)) = _
  exact if_neg (by rw [Fin.val_last, show cfg0.N = 1 from N_0]; decide)

/-- What enters the call, with the scratch buffers, is what is held at the first grid point, -/
theorem hin (c : Dev nD) : iprop(Pipeline.scopedRest spec0 c ∗ (∃ r, prngReg c r) ∗ StableHlo.held (c.tc : Thread nD τ) ∅ (V1 m c) ∗ Xk m c)
    ⊢ (dat m c).Φ 0 := by
  rw [first_Φ, scopedRest0_eq]
  unfold scratch
  iintro ⟨Hs, Hp, -, HX⟩
  isplitl [HX]; · iexact HX
  isplitl [Hs]; · iexact Hs
  iexact Hp

/-- and what is held after the last is what leaves it. -/
theorem hout (c : Dev nD) : (dat m c).Φ (Fin.last cfg0.N)
    ⊢ iprop(Pipeline.scopedRest spec0 c ∗ (∃ r, prngReg c r) ∗ StableHlo.held (c.tc : Thread nD τ) ∅ (Vend m c) ∗ Pipeline.ownSems0 osem c ∗ semVal (barCell c) 0) := by
  rw [last_Φ, scopedRest0_eq]
  unfold scratch StableHlo.held
  rw [bigSep_empty]
  iintro ⟨⟨Hb, Ho⟩, Hs, Hp⟩
  isplitl [Hs]; · iexact Hs
  isplitl [Hp]; · iexact Hp
  isplitr; · iempintro
  isplitl [Ho] <;> iassumption

set_option backward.isDefEq.respectTransparency.types false in
/-- The call as an item: entered with the launch contents after the host operations, left with the result in place. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body m c).loose)
    (fun _ => 0) O₀ (fun c => (first_owed m c).trans (zero_add _).symm) (owed_last m) (fun _ => rfl)
    (fun c w => by show (if _ then fullShare else fullShare) = fullShare; split <;> rfl)
    (V1 m) (Vend m) (fun c b hb => Function.update_of_ne (fun h => by subst h; revert hb; decide +kernel) ..)
    (Tk m) (fun c => semVal (barCell c) 0) (Xk m) (fun c => semVal (barCell c) 0) (hopen m) (hin m) (hout m)
    (fun c => by iintro H; imodintro; iexact H)
    (fun _ => 0)
    ⟨fun _ w s => by rw [L_tc]; exact Finset.mem_singleton_self _, fun c w s => stage_level c w s, fun c t g i h => cut_owed m c t g i h⟩
    (fun _ => iprop(emp))
    (fun _ w => rfl)
    (fun c w => by
      match w with
      | 0 => exact ((dat m c).arrAt_in 0 rfl _).trans (Vend_of m c main_arg0 (by decide)).symm
      | 1 => exact ((dat m c).arrAt_in 1 rfl _).trans (Vend_of m c main_arg1 (by decide)).symm
      | 2 => exact ((dat m c).arrAt_in 2 rfl _).trans (Vend_of m c main_v15 (by decide)).symm
      | 3 => exact ((dat m c).arrAt_in 3 rfl _).trans (Vend_of m c main_v16 (by decide)).symm
      | 4 => exact ((dat m c).arrAt_in 4 rfl _).trans (Vend_of m c main_arg4 (by decide)).symm
      | 5 => exact (end_result m c).trans (Vend_result m c).symm
      | ⟨_ + 6, h⟩ => exact absurd h (Nat.not_lt.2 (Nat.le_add_left _ _)))

end Cert.KernelIdeal.Hyper

end
-- ==== Proof.KernelIdeal.Launch.lean ====
/- The launch: the cells are made, every device gets what it brings to the call, and the run of the whole program follows. -/
module

public import proofs.«01_k».proof.Proof.KernelIdeal.Region
public import Idealize.ShloMosaic.Lib.Quiescent

@[expose] public section

noncomputable section

namespace Cert.KernelIdeal.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg)

variable {F : FTy → Type} [FloatOps F]

local notation "𝕄" => MT nD τ sig Unit (Elt F) ℕ UU ℕ

/-! ## The tokens of the duties -/

/-- A device's cells with their duties: five on the barrier cell, one on each of the others. -/
abbrev tokOf : Fin 5 ⊕ (Fin 10 ⊕ Fin 10) → SemLoc sig × Fin 5
  | .inl r => (.reg barS, r)
  | .inr (.inl j) => (.dma (sendS j), 0)
  | .inr (.inr j) => (.dma (recvS j), 0)

/-- Different duties of a device are on different cells or have different numbers. -/
theorem tokOf_inj : Function.Injective tokOf := by decide +kernel

/-- The tokens of round 0, one for each device and each of its duties, -/
def tokEmb : Dev nD × (Fin 5 ⊕ (Fin 10 ⊕ Fin 10)) ↪ GSem nD τ sig × ℕ × Fin 5 :=
  ⟨fun x => (((x.1 : Thread nD τ), (tokOf x.2).1), 0, (tokOf x.2).2), fun a b h =>
    Prod.ext (congrArg (fun t : GSem nD τ sig × ℕ × Fin 5 => t.1.1.1) h)
      (tokOf_inj (Prod.ext (congrArg (fun t : GSem nD τ sig × ℕ × Fin 5 => t.1.2) h) (congrArg (fun t : GSem nD τ sig × ℕ × Fin 5 => t.2.2) h)))⟩

/-- and the set of them all. -/
def talkToks : Finset (GSem nD τ sig × ℕ × Fin 5) := Finset.univ.map tokEmb

/-- No barrier cell is a cell of a transfer. -/
theorem cells_disjoint : Disjoint barCells dmaCells := by
  refine Finset.disjoint_left.mpr fun g h1 h2 => ?_
  obtain ⟨c, -, rfl⟩ := Finset.mem_map.mp h1
  obtain ⟨x, -, h⟩ := Finset.mem_map.mp h2
  have h' : SemLoc.dma (ownS x.2) = SemLoc.reg barS := congrArg (fun g : GSem nD τ sig => g.2) h
  cases h'

/-- A family over devices and items may be read with each item's devices permuted. -/
theorem rearrange {n : ℕ} (e : Fin n → Dev nD ≃ Dev nD) (Φ : Dev nD → Fin n → sProp 𝕄) :
    (bigSep Finset.univ fun c : Dev nD => bigSep Finset.univ fun j : Fin n => Φ c j)
      = bigSep Finset.univ fun c : Dev nD => bigSep Finset.univ fun j : Fin n => Φ (e j c) j := by
  rw [Pipeline.bigSep_univ_comm Φ, Pipeline.bigSep_univ_comm fun c j => Φ (e j c) j]
  exact bigSep_congr fun j _ => bigSep_univ_equiv (e j) fun c => Φ c j

/-- All tokens, each device holding those of the duties it pays. -/
theorem toks_dealt : bigSep talkToks (fun x => (dutyTok ER x.1 x.2.1 x.2.2 : sProp 𝕄))
    = iprop((bigSep Finset.univ fun c : Dev nD => bigSep Finset.univ fun r : Fin 5 => dutyTok ER (barCell (peer r c)) 0 r)
      ∗ (bigSep Finset.univ fun c : Dev nD => bigSep Finset.univ fun j : Fin 10 => dutyTok ER (sendCell c j) 0 0)
      ∗ (bigSep Finset.univ fun c : Dev nD => bigSep Finset.univ fun j : Fin 10 => dutyTok ER (recvCell (peer (rd j) c) j) 0 0)) := by
  have h1 := rearrange (F := F) peerEquiv fun c r => (dutyTok ER (barCell c) 0 r : sProp 𝕄)
  have h2 := rearrange (F := F) (fun j => peerEquiv (rd j)) fun c j => (dutyTok ER (recvCell c j) 0 0 : sProp 𝕄)
  have h3 : bigSep talkToks (fun x => (dutyTok ER x.1 x.2.1 x.2.2 : sProp 𝕄))
      = bigSep Finset.univ fun c : Dev nD => iprop((bigSep Finset.univ fun r : Fin 5 => dutyTok ER (barCell c) 0 r)
        ∗ (bigSep Finset.univ fun j : Fin 10 => dutyTok ER (sendCell c j) 0 0) ∗ (bigSep Finset.univ fun j : Fin 10 => dutyTok ER (recvCell c j) 0 0)) := by
    unfold talkToks
    rw [bigSep_map, bigSep_univ_prod]
    exact bigSep_congr fun c _ => by rw [bigSep_univ_sum, bigSep_univ_sum]; rfl
  have h4 : (bigSep Finset.univ fun c : Dev nD => iprop((bigSep Finset.univ fun r : Fin 5 => dutyTok ER (barCell c) 0 r)
        ∗ (bigSep Finset.univ fun j : Fin 10 => dutyTok ER (sendCell c j) 0 0) ∗ (bigSep Finset.univ fun j : Fin 10 => dutyTok ER (recvCell c j) 0 0)) : sProp 𝕄)
      = iprop((bigSep Finset.univ fun c : Dev nD => bigSep Finset.univ fun r : Fin 5 => dutyTok ER (barCell c) 0 r)
      ∗ (bigSep Finset.univ fun c : Dev nD => bigSep Finset.univ fun j : Fin 10 => dutyTok ER (sendCell c j) 0 0)
      ∗ (bigSep Finset.univ fun c : Dev nD => bigSep Finset.univ fun j : Fin 10 => dutyTok ER (recvCell c j) 0 0)) := by
    rw [bigSep_sep', bigSep_sep']
  rw [h3, h4, h1, h2]
  rfl

/-! ## The credit of what the others owe -/

/-- What the partners owe a device in landings gives it the right to wait for each of the ten. -/
theorem launch_landings (c : Dev nD) : (Pipeline.launchCred (dueR 0) c : sProp 𝕄)
    ⊢ bigSep Finset.univ fun j : Fin 10 => cred (tallyAt (recvCell c j) () (units j)) := by
  have e : (dueR 0 : Dev nD → CellTallies nD τ sig Unit)
      = fun d => ∑ j ∈ (Finset.univ : Finset (Fin 10)), tallyAt (recvCell (peer (rd j) d) j) () (units j) := by
    funext d; unfold dueR; rw [Finset.filter_true_of_mem fun _ _ => Nat.zero_le _]
  rw [e, Pipeline.launchCred_sum]
  exact bigSep_mono fun j _ => Pipeline.launchCred_tallyAt (.dma (recvS j)) (peer (rd j)) (peer (rd j)) (peer_peer _) (peer_peer _) () (units j) c

/-- Unit credits on one cell are one credit. -/
theorem gather (g : GSem nD τ sig) (s : Finset (Fin 5)) :
    (bigSep s fun _ => cred (tallyAt g () 1)) ⊢ (cred (tallyAt g () s.card) : sProp 𝕄) := by
  induction s using Finset.induction_on with
  | empty => rw [bigSep_empty, Finset.card_empty, show (tallyAt g () 0 : CellTallies nD τ sig Unit) = 0 from by unfold tallyAt; simp, cred_zero]
             exact .rfl
  | insert a s ha ih =>
    rw [bigSep_insert ha, Finset.card_insert_of_notMem ha, add_comm, show (tallyAt g () (1 + s.card) : CellTallies nD τ sig Unit)
      = tallyAt g () 1 + tallyAt g () s.card from by unfold tallyAt; rw [Finsupp.single_add, tallyOn_add]]
    exact (sep_mono .rfl ih).trans (cred_add _ _).2

/-- What the partners owe a device at the barrier gives it the right to wait for five units. -/
theorem launch_gate (c : Dev nD) : (Pipeline.launchCred (dueB 0) c : sProp 𝕄) ⊢ cred (tallyAt (barCell c) () 5) := by
  have e : (dueB 0 : Dev nD → CellTallies nD τ sig Unit)
      = fun d => ∑ r ∈ (Finset.univ : Finset (Fin 5)), tallyAt (barCell (peer r d)) () 1 := by
    funext d; unfold dueB; rw [Finset.filter_true_of_mem fun _ _ => Nat.zero_le _]
  rw [e, Pipeline.launchCred_sum]
  exact (bigSep_mono fun r _ => Pipeline.launchCred_tallyAt (.reg barS) (peer r) (peer r) (peer_peer _) (peer_peer _) () 1 c).trans
    (gather (barCell c) Finset.univ)

/-- The two together. -/
theorem launch_creds (c : Dev nD) : (Pipeline.launchCred O₀ c : sProp 𝕄)
    ⊢ iprop(cred (tallyAt (barCell c) () 5) ∗ bigSep Finset.univ fun j : Fin 10 => cred (tallyAt (recvCell c j) () (units j))) := by
  rw [show (O₀ : Dev nD → CellTallies nD τ sig Unit) = fun d => dueR 0 d + dueB 0 d from rfl, Pipeline.launchCred_add]
  iintro ⟨H1, H2⟩
  isplitl [H2]
  · iapply (launch_gate (F := F) c) $$ H2
  · iapply (launch_landings (F := F) c) $$ H1

/-! ## What every device has before the program starts -/

variable (m : (ℓ : Loc nD τ sig) → Buf (Elt F) ℓ) (ρ : Dev nD → PrngReg)

/-- What a device holds besides its buffers, before the call and after it. -/
def aside : Fin 2 → Dev nD → sProp 𝕄
  | 0, c => iprop(Tk m c ∗ (∃ r, prngReg c r) ∗ ∃ W, owes (c : Thread nD τ) (O₀ c) W)
  | 1, c => iprop(semVal (barCell c) 0 ∗ (∃ r, prngReg c r) ∗ ∃ W, owes (c : Thread nD τ) (0 : CellTallies nD τ sig Unit) W)

/-- The launch element of the protocol. -/
abbrev uTalk : URounds (GSem nD τ sig) (Fin 5) := launchOf barCells dmaCells talkToks

/-- It is kept whole by device 0 until all devices' cells are made. -/
def G (c : Dev nD) : sProp 𝕄 := if c = 0 then BI.own (ER uTalk) else iprop(emp)

/-- Together the devices have the launch element once. -/
theorem G_all : bigSep Finset.univ (G (F := F)) = BI.own (ER uTalk) := by
  have h : bigSep ((Finset.univ : Finset (Dev nD)).erase 0) (G (F := F)) = (BI.emp : sProp 𝕄) := by
    rw [bigSep_congr (Ψ := fun _ => (BI.emp : sProp 𝕄)) fun c hc => (by unfold G; rw [if_neg (Finset.ne_of_mem_erase hc)]; rfl), BI.bigSep_emp_const]
  rw [bigSep_univ_at _ (0 : Dev nD), h, show G (F := F) 0 = BI.own (ER uTalk) from if_pos rfl]
  exact BI.equiv_iff.mp sep_emp

/-- What making the cells leaves a device with. -/
def dealt (c : Dev nD) : sProp 𝕄 :=
  iprop(atPos ER (barCell c) 0 ∅ 0 ∗ (bigSep Finset.univ fun j : Fin 10 => iprop(openTok ER (sendCell c j) ∗ openTok ER (recvCell c j)))
    ∗ (bigSep Finset.univ fun r : Fin 5 => dutyTok ER (barCell (peer r c)) 0 r)
    ∗ (bigSep Finset.univ fun j : Fin 10 => dutyTok ER (sendCell c j) 0 0)
    ∗ bigSep Finset.univ fun j : Fin 10 => dutyTok ER (recvCell (peer (rd j) c) j) 0 0)

/-- What it has besides. -/
def given (c : Dev nD) : sProp 𝕄 :=
  iprop((cred (tallyAt (barCell c) () 5) ∗ bigSep Finset.univ fun j : Fin 10 => cred (tallyAt (recvCell c j) () (units j)))
    ∗ owes (c : Thread nD τ) (O₀ c) ∅ ∗ ∃ r, prngReg c r)

/-- What is dealt and what is given make up what a device carries to the call. -/
theorem aside_intro (K : GSem nD τ sig → ℕ) (c : Dev nD) : iprop(recs (part m) K ∗ (dealt c ∗ given c)) ⊢ aside m 0 c := by
  show _ ⊢ iprop(Tk m c ∗ (∃ r, prngReg c r) ∗ ∃ W, owes (c : Thread nD τ) (O₀ c) W)
  unfold dealt given Tk gate kept
  simp only [bigSep_sep']
  iintro ⟨#HR, ⟨Ha, ⟨Ho1, Ho2⟩, Hb, Hs, Hr⟩, ⟨Hc1, Hc2⟩, HO, Hp⟩
  isplitr [HO Hp]
  · iexists K
    isplitr; · iexact HR
    isplitl [Ha Hc1 Hb]
    · isplitr [Hb]; · isplitl [Ha] <;> iassumption
      iexact Hb
    isplitl [Ho1 Ho2]; · isplitl [Ho1] <;> iassumption
    isplitl [Hs]; · iexact Hs
    isplitl [Hc2] <;> iassumption
  isplitl [Hp]; · iexact Hp
  iexists ∅; iexact HO

/-- The barrier semaphore is the only one that outlives the call, -/
theorem gate_only : (Finset.univ.filter fun sm : SemLoc sig => ¬ sm.isScoped .tc) = {.reg barS} := by decide +kernel

/-- so its counter is the only one a device begins with. -/
theorem unscoped_gate (c : Dev nD) : (unscopedSems0 c : sProp 𝕄) = semVal (barCell c) 0 := by
  unfold unscopedSems0; rw [gate_only, bigSep_singleton]

/-- The cells are made from the barrier counters and the launch element, and each device has what it brings to the call. -/
theorem start_all :
    iprop((bigSep Finset.univ fun c : Dev nD => iprop(unscopedSems0 c ∗ owes (c : Thread nD τ) (O₀ c) ∅ ∗ Pipeline.launchCred O₀ c ∗ prngReg c (ρ c) ∗ G c))
        ∗ levAts L lv)
      ⊢ (|={Set.univ}=> bigSep Finset.univ (aside m 0) : sProp 𝕄) := by
  have hone (c : Dev nD) : iprop(unscopedSems0 c ∗ owes (c : Thread nD τ) (O₀ c) ∅ ∗ Pipeline.launchCred O₀ c ∗ prngReg c (ρ c) ∗ G c)
      ⊢ (iprop(given c ∗ (semVal (barCell c) 0 ∗ G c)) : sProp 𝕄) := by
    rw [unscoped_gate]; unfold given
    iintro ⟨Hs, HO, Hc, Hp, HG⟩
    isplitr [Hs HG]
    · isplitl [Hc]; · iapply (launch_creds (F := F) c) $$ Hc
      isplitl [HO]; · iexact HO
      iexists (ρ c); iexact Hp
    isplitl [Hs] <;> iassumption
  have hbar (Φ : GSem nD τ sig → sProp 𝕄) : bigSep barCells Φ = bigSep Finset.univ fun c : Dev nD => Φ (barCell c) := by
    unfold barCells; rw [bigSep_map]; rfl
  have hdma : bigSep dmaCells (fun g => (openTok ER g : sProp 𝕄))
      = bigSep Finset.univ fun c : Dev nD => bigSep Finset.univ fun j : Fin 10 => iprop(openTok ER (sendCell c j) ∗ openTok ER (recvCell c j)) := by
    unfold dmaCells; rw [bigSep_map, bigSep_univ_prod]
    exact bigSep_congr fun c _ => both fun s => openTok ER ((c : Thread nD τ), s)
  iintro ⟨H, -⟩
  ihave H1 := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(given c ∗ (semVal (barCell c) 0 ∗ G c)) : sProp 𝕄) from bigSep_mono fun c _ => hone c) $$ H
  ihave H2 := Smoke.bigSep_unpair $$ H1; icases H2 with ⟨HB, H3⟩
  ihave H4 := Smoke.bigSep_unpair $$ H3; icases H4 with ⟨Hv, HG⟩
  ihave Hu := (Entails.of_eq (G_all (F := F))) $$ HG
  ihave Hv' := (Entails.of_eq (hbar fun g => semVal g 0).symm) $$ Hv
  imod (Rounds.fund_launch ER (talk (part m)) cells_disjoint (fun g _ h => h) talkToks) $$ [Hv' Hu] with ⟨%K, -, #Hinv, #Hr, Hat, Hopen, Htok⟩
  · isplitl [Hv'] <;> iassumption
  imodintro
  iapply (bigSep_with_persistent (R := recs (part m) K) (Φ := fun c => iprop(dealt c ∗ given c)) fun c _ => aside_intro m K c)
  isplitr
  · unfold recs
    isplitr; · iexact Hinv
    iexact Hr
  iapply Smoke.bigSep_pair
  isplitr [HB]
  · unfold dealt
    ihave Ht := (Entails.of_eq (toks_dealt (F := F))) $$ Htok
    icases Ht with ⟨Ht1, Ht2, Ht3⟩
    iapply Smoke.bigSep_pair; isplitl [Hat]; · iapply (Entails.of_eq (hbar fun g => atPos ER g 0 ∅ 0)) $$ Hat
    iapply Smoke.bigSep_pair; isplitl [Hopen]; · iapply (Entails.of_eq hdma) $$ Hopen
    iapply Smoke.bigSep_pair; isplitl [Ht1]; · iexact Ht1
    iapply Smoke.bigSep_pair; isplitl [Ht2] <;> iassumption
  · iexact HB

/-! ## The run -/

/-- The arrays of the call are among the buffers that @main holds. -/
theorem arr_sub : (Pipeline.arrRefs spec0 : Finset (DevRef τ sig)) ⊆ Pipeline.ucRefs τ sig :=
  Pipeline.arrRefs_sub_ucRefs spec0 (by decide +kernel)

/-- What a device holds after the host code, with what it carries, is what the call begins with, -/
theorem entered (c : Dev nD) : iprop(StableHlo.held (c : Thread nD τ) (Pipeline.ucRefs τ sig) (V1 m c) ∗ aside m 0 c) ⊢ (region m).pre c := by
  show iprop(_ ∗ Tk m c ∗ (∃ r, prngReg c r) ∗ ∃ W, owes (c : Thread nD τ) (O₀ c) W)
    ⊢ iprop(StableHlo.held (c : Thread nD τ) (Pipeline.arrRefs spec0) (V1 m c) ∗ (∃ r, prngReg c r)
      ∗ (StableHlo.held (c : Thread nD τ) others (V1 m c) ∗ emp) ∗ Tk m c ∗ ∃ W, owes (c : Thread nD τ) (0 + O₀ c) W)
  rw [StableHlo.held_sub_split (c : Thread nD τ) arr_sub (V1 m c), zero_add]
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

/-- and what the call ends with is what @main holds, the barrier counter at zero. -/
theorem left (c : Dev nD) : (region m).post c ⊢ iprop((StableHlo.held (c : Thread nD τ) (Pipeline.ucRefs τ sig) (Vend m c) ∗ semVal (barCell c) 0)
    ∗ ∃ W, owes (c : Thread nD τ) (0 : CellTallies nD τ sig Unit) W) := by
  show iprop(StableHlo.held (c : Thread nD τ) (Pipeline.arrRefs spec0) (Vend m c) ∗ (∃ r, prngReg c r)
      ∗ (StableHlo.held (c : Thread nD τ) others (Vend m c) ∗ emp) ∗ semVal (barCell c) 0 ∗ ∃ W, owes (c : Thread nD τ) 0 W) ⊢ _
  rw [StableHlo.held_sub_split (c : Thread nD τ) arr_sub (Vend m c)]
  iintro ⟨Ha, -, ⟨Ho, -⟩, Hs, HO⟩
  isplitr [HO]
  · isplitr [Hs]; · isplitl [Ha] <;> iassumption
    iexact Hs
  iexact HO

/-- No level is set off the TensorCore. -/
theorem L_of_ne (g : GSem nD τ sig) (h : g.1.2 ≠ .tc) : L g = ∅ := if_neg h

/-- A semaphore that outlives the call is the barrier. -/
theorem unscoped_eq : ∀ sm : SemLoc sig, sm.isScoped .tc = false → sm = .reg barS := by decide +kernel

/-- A buffer that neither the host code nor the call writes is as it was at launch. -/
theorem kept_arg (c : Dev nD) (r : Ref sig .tc) (h1 : r ∉ ([main_v17] : List (Ref sig .tc))) (h2 : r ∉ hostOps0_W) :
    Vend m c r = m ((c : Thread nD τ).loc r) :=
  (Vend_of m c r h1).trans (V1_of m c r h2)

/-- A buffer that outlives the call is among those @main holds. -/
theorem uc_mem (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- What a final memory shows of device `c`. -/
def Seen (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v17) = result m

set_option backward.isDefEq.respectTransparency.types false in
/-- From any memory with zero counters every weakly fair run of the program on the 32 devices ends, and at its end every device's
    arguments are as they were, its result is `result m`, and every counter is zero. -/
theorem run_main : θ_run defs (onTc (τ := τ) (main (F := F))) ⟨m, fun _ => 0, ρ⟩
    (fun r => (∀ c : Dev nD, Seen m c r.2) ∧ r.2.sem = fun _ => 0) := by
  refine Pipeline.θ_run_regions_kit_dev_sems (pcfgs (F := F)) adm (pdats m) () cellOf_inj EP defs₀ 𝒱₀ L lv m ρ main
    (segs m 𝒱₀ L lv (aside m) () (pdats m) (region m))
    (fun c Q => by
      rewrite [main_chain c, Seg.run_eq_chain,
        show (segs m 𝒱₀ L lv (aside m) () (pdats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G
    ((initOf (Pipeline.cells cfgs cellOf_inj) (Pipeline.launchToks cfgs cellOf_inj), uTalk) : UU)
    ?_
    (fun c => iprop(StableHlo.held (c : Thread nD τ) (Pipeline.ucRefs τ sig) (V0 m c) ∗ aside m 0 c))
    (fun c => iprop(StableHlo.held (c : Thread nD τ) (Pipeline.ucRefs τ sig) (Vend m c) ∗ semVal (barCell c) 0))
    (fun c => ⟨.rfl, entered m c, left m c⟩)
    ?_ (fun c s => Seen m c s ∧ s.sem (barCell c) = 0)
    (fun c s' => ?_) (fun s h hs => ⟨fun c => (h c).1, sem_eq_zero hs fun c sm hsm => by
      obtain rfl := unscoped_eq sm hsm
      exact (h c).2⟩)
  · iintro Hu
    ihave H := (ownU_pair _ _) $$ Hu
    icases H with ⟨HP, HX⟩
    imodintro
    isplitl [HP]; · iexact HP
    iapply (Entails.of_eq (G_all (F := F)).symm) $$ HX
  · have hsplit : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start_all m ρ) $$ [Hr Hla] with HE
    · isplitl [Hr] <;> iassumption
    imodintro
    iapply Smoke.bigSep_pair
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨⟨⟨(h _ (uc_mem main_arg0 rfl)).trans (kept_arg m c main_arg0 (by decide) (by decide)),
        (h _ (uc_mem main_arg1 rfl)).trans (kept_arg m c main_arg1 (by decide) (by decide)),
        (h _ (uc_mem main_arg2 rfl)).trans (kept_arg m c main_arg2 (by decide) (by decide)),
        (h _ (uc_mem main_arg3 rfl)).trans (kept_arg m c main_arg3 (by decide) (by decide)),
        (h _ (uc_mem main_arg4 rfl)).trans (kept_arg m c main_arg4 (by decide) (by decide))⟩,
        (h _ (uc_mem main_v17 rfl)).trans (Vend_result m c)⟩, by simpa using hb⟩
    iexact HSI

end Cert.KernelIdeal.Hyper

end
-- ==== Proof.Value.Sum.lean ====
/-
  What the exchange leaves is, at each entry, the sum of all devices' products.
-/
module

public import proofs.«01_k».proof.Proof.KernelIdeal.Talk
public import Idealize.ShloMosaic.Lib.Pointwise

@[expose] public section

noncomputable section

namespace Cert.KernelIdeal.Hyper

open Cert.KernelIdeal Cert.KernelIdeal.Gen Idealize.ShloMosaic Idealize.SL.Sem

/-- The device whose number differs from `c`'s in the bits of `k`. -/
def across (c : Dev nD) (k : ℕ) : Dev nD := ⟨(c.val ^^^ k) % 32, Nat.mod_lt _ (by decide)⟩

/-- To cross no bit is to stay. -/
theorem across_zero : ∀ c : Dev nD, across c 0 = c := by decide

/-- To cross the bits of `k` from a partner is to cross them and the partner's bit. -/
theorem across_peer : ∀ (r : Fin 5) (c : Dev nD) (k : Fin 32), k.val < 2 ^ r.val → across (peer r c) k.val = across c (2 ^ r.val + k.val) := by
  decide +kernel

/-- Crossing from `c` the number of the device across `k` from `c` leads to device `k`. -/
theorem across_across : ∀ (c : Dev nD) (k : Dev nD), across c (across c k.val).val = k := by
  decide +kernel

variable (P : Dev nD → Vec Ideal S256x512 .f32)

/-- After `n` rounds a device's entry is the sum of those of the `2 ^ n` devices that differ from it in the first `n` bits. -/
theorem accN_apply (i : S256x512.Idx) (n : ℕ) (hn : n ≤ 5) (c : Dev nD) :
    accN P n c i = ∑ k ∈ Finset.range (2 ^ n), (P (across c k) i : EReal) := by
  induction n generalizing c with
  | zero => rw [pow_zero, Finset.sum_range_one, across_zero]; rfl
  | succ n ih =>
    have hp : 2 ^ n ≤ 2 ^ 4 := Nat.pow_le_pow_right (by decide) (by omega)
    show (accN P n c i + accN P n (peer (Fin.ofNat 5 n) c) i : EReal) = _
    rw [ih (by omega), ih (by omega), pow_succ, mul_two, Finset.sum_range_add]
    refine congrArg _ (Finset.sum_congr rfl fun k hk => ?_)
    have hk := Finset.mem_range.mp hk
    have h := across_peer (Fin.ofNat 5 n) c ⟨k, by omega⟩
    rw [show (Fin.ofNat 5 n).val = n from Nat.mod_eq_of_lt (by omega)] at h
    rw [h hk]

/-- The result's entry is the sum of every device's. -/
theorem outA_apply (i : S256x512.Idx) : outA P i = ∑ d : Dev nD, (P d i : EReal) := by
  unfold outA
  rw [accN_apply P i 5 le_rfl, show 2 ^ 5 = nD from rfl, ← Fin.sum_univ_eq_sum_range (fun k => (P (across _ k) i : EReal)) nD]
  exact Equiv.sum_comp (Function.Involutive.toPerm (fun k : Dev nD => across (owner (i 0).val) k.val) (across_across _)) (fun d => (P d i : EReal))

end Cert.KernelIdeal.Hyper

end
end
-- ==== Proof.Value.Attend.lean ====
/-
  One row of attention over numbers, as both programs compute it, and two facts of sums that need no program.
-/
module

public import Idealize.ShloMosaic.Lib.Pointwise

@[expose] public section

noncomputable section

namespace Cert.Attend

open Idealize.ShloMosaic

/-- Position `i` attends to the positions of its own block of 64 and of the blocks before it. -/
def keeps (i j : Fin 128) : BitVec 1 := BitVec.ofBool (decide (j.val / 64 ≤ i.val / 64))

/-- The score of key row `j` for query row `i`, whose entries are `q`: an eighth of their product where `i` attends to `j`. -/
def score (q : Fin 64 → EReal) (k : Fin 128 → Fin 64 → EReal) (i j : Fin 128) : EReal :=
  Scalar.select (keeps i j) ((∑ e, q e * k j e) * Ideal.ofBits .f32 0x3E000000#32) (Ideal.ofBits .f32 0xCE6E6B28#32)

/-- A row's exponentials, less the row's greatest entry. -/
def raise (s : Fin 128 → EReal) (j : Fin 128) : EReal :=
  Ideal.exp (s j - Finset.fold max (Ideal.ofBits .f32 0xFF800000#32) s Finset.univ)

/-- A row divided by its sum. -/
def share (w : Fin 128 → EReal) (j : Fin 128) : EReal := Ideal.div (w j) (∑ x, w x)

/-- The context of query row `i`: the rows of `v` weighed by the shares of its scores. -/
def context (q : Fin 64 → EReal) (k v : Fin 128 → Fin 64 → EReal) (i : Fin 128) (e : Fin 64) : EReal :=
  ∑ j, share (raise (score q k i)) j * v j e

/-- A sum over `m * n` places is the sum over `m` runs of `n` places. -/
theorem sum_runs {m n N : ℕ} (h : m * n = N) (f : Fin N → EReal) :
    ∑ x, f x = ∑ a : Fin m, ∑ b : Fin n, f ⟨a.val * n + b.val, h ▸ (by
      calc a.val * n + b.val < a.val * n + n := by have := b.isLt; omega
        _ = (a.val + 1) * n := by ring
        _ ≤ m * n := Nat.mul_le_mul_right n a.isLt)⟩ := by
  subst h
  rw [← Finset.sum_product', Finset.univ_product_univ, ← Equiv.sum_comp finProdFinEquiv]
  refine Finset.sum_congr rfl fun x _ => congrArg f (Fin.ext ?_)
  simp only [finProdFinEquiv_apply_val]
  ring

/-- The numbers of 64-blocks before two positions compare as words as they do as numbers. -/
theorem keeps_of_words : ∀ a b : Fin 2, IntOp.cmpi .sle (BitVec.ofNat 32 b.val) (BitVec.ofNat 32 a.val) = BitVec.ofBool (decide (b.val ≤ a.val)) := by
  decide

/-- A mask that compares block numbers, written as words, is `keeps`. -/
theorem keeps_eq (i j : Fin 128) : IntOp.cmpi .sle (BitVec.ofNat 32 (j.val / 64)) (BitVec.ofNat 32 (i.val / 64)) = keeps i j :=
  keeps_of_words ⟨i.val / 64, by omega⟩ ⟨j.val / 64, by omega⟩

/-- Every position attends to position 0. -/
theorem keeps_first (i : Fin 128) : keeps i 0 = 1#1 := by
  have h : (0 : Fin 128).val / 64 ≤ i.val / 64 := by simp
  simp [keeps, h]

end Cert.Attend

end
end
-- ==== Proof.Value.Head.lean ====
/-
  One head of one batch on a device: the payloads spell the same computation eight times, cut at different places. It is
  named once here, and the device's product is stated over the eight heads.
-/
module

public import proofs.«01_k».proof.Proof.KernelIdeal.Body
public import proofs.«01_k».proof.Proof.Value.Attend

@[expose] public section

set_option maxRecDepth 16384

noncomputable section

namespace Cert.KernelIdeal.Hyper

open Cert.KernelIdeal Cert.KernelIdeal.Gen Idealize.ShloMosaic Idealize.SL.Sem

variable {F : FTy → Type} [FloatOps F]

/-- The masked and scaled scores of 128 queries against 128 keys. -/
def scores (mk : IVec S128x128 1) (q k : FVec F S128x64 .f32) : FVec F S128x128 .f32 :=
  select mk
    (mulf (matmul dot_S128x64_S64x128_S128x128_1_0_0_1_n_n none q (transpose S64x128 [1, 0] k transposes_S128x64_p1_0_S64x128) (constant S128x128 .f32 0x00000000#32))
      (broadcast S128x128 (Scalar.ofBits .f32 0x3E000000#32)))
    (broadcast S128x128 (Scalar.ofBits .f32 0xCE6E6B28#32))

/-- The exponential of each row less the row's greatest entry. -/
def raised (s : FVec F S128x128 .f32) : FVec F S128x128 .f32 :=
  exp (subf s (broadcastTo S128x128 (shapeCast S128x1 (multiReduction .maximumf [1] S128 s 0xFF800000#32 reduces_S128x128_S128 (.inl rfl) rfl) shapeCasts_S128_S128x1) broadcasts_S128x1_S128x128))

/-- Each row divided by its sum. -/
def shares (w : FVec F S128x128 .f32) : FVec F S128x128 .f32 :=
  divf w (broadcastTo S128x128 (shapeCast S128x1 (multiReduction .add [1] S128 w 0x00000000#32 reduces_S128x128_S128 (.inl rfl) rfl) shapeCasts_S128_S128x1) broadcasts_S128x1_S128x128)

/-- One head: the rows' shares of the values. -/
def head (mk : IVec S128x128 1) (q k v : FVec F S128x64 .f32) : FVec F S128x64 .f32 :=
  matmul dot_S128x128_S128x64_S128x64_1_0_0_1_n_n none (shares (raised (scores mk q k))) v (constant S128x64 .f32 0x00000000#32)

/-- Four heads side by side. -/
def four (h : Fin 4 → FVec F S128x64 .f32) : FVec F S128x256 .f32 :=
  concatenate S128x256 1 [⟨S128x64, h 0⟩, ⟨S128x64, h 1⟩, ⟨S128x64, h 2⟩, ⟨S128x64, h 3⟩] concatenates_S128x64_S128x64_S128x64_S128x64_S128x256_d1

/-- Two batches below each other. -/
def two (c : Fin 2 → FVec F S128x256 .f32) : FVec F S256x256 .f32 :=
  concatenate S256x256 0 [⟨S128x256, c 0⟩, ⟨S128x256, c 1⟩] concatenates_S128x256_S128x256_S256x256_d0

variable (X : Vec F S2x128x512 .f32) (Wq : Vec F S512x256 .f32) (Kh Vh : Vec F S2x4x128x64 .f32) (Wo : Vec F S256x512 .f32)

/-- The slab of one batch and head lies in the staged arrays. -/
theorem slab_inb (b : Fin 2) (h : Fin 4) : ∀ a, (![b.val, h.val, 0, 0] : Fin 4 → ℕ) a + S1x1x128x64.size a ≤ S2x4x128x64.size a := by
  revert b h; decide
/-- The queries of one batch and head lie in the device's queries. -/
theorem slice_fits (b : Fin 2) (h : Fin 4) : S256x256.Slices ![b.val * 128, h.val * 64] S128x64 := by
  revert b h; decide

/-- One batch's head on the device. -/
def headAt (b : Fin 2) (h : Fin 4) : FVec F S128x64 .f32 :=
  head mask (extractStridedSlice S128x64 ![b.val * 128, h.val * 64] (queries X Wq) (slice_fits b h))
    (shapeCast S128x64 (headK Kh ![b.val, h.val, 0, 0] (slab_inb b h)) shapeCasts_S1x1x128x64_S128x64)
    (shapeCast S128x64 (headV Vh ![b.val, h.val, 0, 0] (slab_inb b h)) shapeCasts_S1x1x128x64_S128x64)

/-- The device's product is its eight heads times its rows of the output weights. -/
theorem product_eq : product X Wq Kh Vh Wo
    = matmul dot_S256x256_S256x512_S256x512_1_0_0_1_n_n none (two fun b => four (headAt X Wq Kh Vh b)) (shapeCast S256x512 Wo shapeCasts_S256x512_S256x512) (constant S256x512 .f32 0x00000000#32) := rfl

end Cert.KernelIdeal.Hyper

end
end
-- ==== Proof.Value.Device.lean ====
/-
  What one device computes before the exchange, read at an index.
-/
module

public import proofs.«01_k».proof.Proof.Value.Head

@[expose] public section

set_option maxRecDepth 16384

noncomputable section

namespace Cert.KernelIdeal.Hyper

open Cert.KernelIdeal Cert.KernelIdeal.Gen Idealize.ShloMosaic Idealize.SL.Sem
open Cert.Attend

/-- The floor division of the columns' positions by 64, as the kernel spells it, is the number of 64-blocks before them. -/
theorem columns_apply (i j : Fin 128) : k0_pay5 (ix2 i j) = BitVec.ofNat 32 (j.val / 64) := by
  pointwise [k0_pay5]
  revert j
  decide

/-- The kernel's mask is that of the blocks. -/
theorem mask_apply (i j : Fin 128) : mask (ix2 i j) = keeps i j := by
  rw [← keeps_eq i j, ← columns_apply i j, ← columns_apply j i]
  pointwise [mask, k0_pay5, k0_pay6, k0_pay7, k0_pay8, k0_pay9, k0_pay10]

/-- A score at a row and a column, read from the row's query and all keys. -/
theorem scores_apply (q k : FVec Ideal S128x64 .f32) (i j : Fin 128) :
    scores mask q k (ix2 i j) = score (fun e => q (ix2 i e)) (fun j e => k (ix2 j e)) i j := by
  unfold score
  rw [← mask_apply]
  pointwise [scores]

/-- The exponential of a score less its row's greatest. -/
theorem raised_apply (s : FVec Ideal S128x128 .f32) (i j : Fin 128) : raised s (ix2 i j) = raise (fun x => s (ix2 i x)) j := by
  pointwise [raised, raise]

/-- A weight over its row's sum. -/
theorem shares_apply (w : FVec Ideal S128x128 .f32) (i j : Fin 128) : shares w (ix2 i j) = share (fun x => w (ix2 i x)) j := by
  pointwise [shares, share]

/-- One head at a row and a column is the row's context there. -/
theorem head_apply (q k v : FVec Ideal S128x64 .f32) (i : Fin 128) (e : Fin 64) :
    head mask q k v (ix2 i e) = context (fun e => q (ix2 i e)) (fun j e => k (ix2 j e)) (fun j e => v (ix2 j e)) i e := by
  unfold context
  pointwise [head]
  simp only [shares_apply, raised_apply, scores_apply]

/-- Four heads side by side: column `64 j + e` is column `e` of head `j`. -/
theorem four_apply (h : Fin 4 → FVec Ideal S128x64 .f32) (i : Fin 128) (j : Fin 4) (e : Fin 64) (hh : j.val * 64 + e.val < 256) :
    four h (ix2 i ⟨j.val * 64 + e.val, hh⟩) = h j (ix2 i e) := by
  pointwise [four]
  have he := e.isLt
  by_cases h0 : j.val * 64 + e.val < 64
  · rw [dif_pos h0]
    obtain rfl : j = 0 := Fin.ext (show j.val = 0 by omega)
    exact congrArg (fun x => h 0 (ix2 i x)) (Fin.ext (show 0 * 64 + e.val = e.val by omega))
  rw [dif_neg h0]
  by_cases h1 : j.val * 64 + e.val - 64 < 64
  · rw [dif_pos h1]
    obtain rfl : j = 1 := Fin.ext (show j.val = 1 by omega)
    exact congrArg (fun x => h 1 (ix2 i x)) (Fin.ext (show 1 * 64 + e.val - 64 = e.val by omega))
  rw [dif_neg h1]
  by_cases h2 : j.val * 64 + e.val - 64 - 64 < 64
  · rw [dif_pos h2]
    obtain rfl : j = 2 := Fin.ext (show j.val = 2 by omega)
    exact congrArg (fun x => h 2 (ix2 i x)) (Fin.ext (show 2 * 64 + e.val - 64 - 64 = e.val by omega))
  rw [dif_neg h2]
  obtain rfl : j = 3 := Fin.ext (show j.val = 3 by omega)
  exact congrArg (fun x => h 3 (ix2 i x)) (Fin.ext (show 3 * 64 + e.val - 64 - 64 - 64 = e.val by omega))

/-- Two batches one above the other: row `128 b + i` is row `i` of batch `b`. -/
theorem two_apply (c : Fin 2 → FVec Ideal S128x256 .f32) (b : Fin 2) (i : Fin 128) (n : Fin 256) (hh : b.val * 128 + i.val < 256) :
    two c (ix2 ⟨b.val * 128 + i.val, hh⟩ n) = c b (ix2 i n) := by
  rcases (by decide : ∀ b : Fin 2, b = 0 ∨ b = 1) b with rfl | rfl
  all_goals pointwise [two]

variable (X : Vec Ideal S2x128x512 .f32) (Wq : Vec Ideal S512x256 .f32) (Kh Vh : Vec Ideal S2x4x128x64 .f32) (Wo : Vec Ideal S256x512 .f32)

/-- The keys of batch `b` and head `h` that the body loads are those staged, -/
theorem headK_apply (b : Fin 2) (h : Fin 4) (j : Fin 128) (e : Fin 64) :
    shapeCast S128x64 (headK Kh ![b.val, h.val, 0, 0] (slab_inb b h)) shapeCasts_S1x1x128x64_S128x64 (ix2 j e) = Kh (ix4 b h j e) := by
  pointwise [headK]
  refine congrArg Kh (funext fun a => Fin.ext ?_)
  match a with
  | 0 => exact Nat.add_zero _
  | 1 => exact Nat.add_zero _
  | 2 =>
    show 0 + 1 * j.val = j.val
    omega
  | 3 =>
    show 0 + 1 * e.val = e.val
    omega

/-- and so are the values. -/
theorem headV_apply (b : Fin 2) (h : Fin 4) (j : Fin 128) (e : Fin 64) :
    shapeCast S128x64 (headV Vh ![b.val, h.val, 0, 0] (slab_inb b h)) shapeCasts_S1x1x128x64_S128x64 (ix2 j e) = Vh (ix4 b h j e) := by
  pointwise [headV]
  refine congrArg Vh (funext fun a => Fin.ext ?_)
  match a with
  | 0 => exact Nat.add_zero _
  | 1 => exact Nat.add_zero _
  | 2 =>
    show 0 + 1 * j.val = j.val
    omega
  | 3 =>
    show 0 + 1 * e.val = e.val
    omega

/-- A device's query of a batch, a row and a head is the row of activations times the head's columns of the weights. -/
theorem queries_apply (b : Fin 2) (i : Fin 128) (h : Fin 4) (e : Fin 64) :
    extractStridedSlice S128x64 ![b.val * 128, h.val * 64] (queries X Wq) (slice_fits b h) (ix2 i e)
      = ∑ x : Fin 512, X (ix3 b i x) * Wq (ix2 x ⟨h.val * 64 + e.val, by omega⟩) := by
  pointwise [queries, k0_pay2, k0_pay3, k0_pay4]

/-- A device's part of the output: over its four heads, the row's context times the head's rows of the output weights.
    -/
theorem product_apply (b : Fin 2) (i : Fin 128) (n : Fin 512) :
    product X Wq Kh Vh Wo (ix2 ⟨b.val * 128 + i.val, by omega⟩ n)
      = ∑ h : Fin 4, ∑ e : Fin 64, context (fun e => ∑ x : Fin 512, X (ix3 b i x) * Wq (ix2 x ⟨h.val * 64 + e.val, by omega⟩))
          (fun j e => Kh (ix4 b h j e)) (fun j e => Vh (ix4 b h j e)) i e * Wo (ix2 ⟨h.val * 64 + e.val, by omega⟩ n) := by
  rw [product_eq]
  pointwise
  rw [sum_runs (m := 4) (n := 64) rfl]
  refine Finset.sum_congr rfl fun h _ => Finset.sum_congr rfl fun e _ => congrArg (· * _) ?_
  rw [two_apply, four_apply, headAt, head_apply]
  simp only [queries_apply]
  exact congrArg₂ (fun k v => context _ k v i e) (funext fun j => funext fun e => headK_apply Kh b h j e) (funext fun j => funext fun e => headV_apply Vh b h j e)

end Cert.KernelIdeal.Hyper

end
end
-- ==== Proof.Value.Host.lean ====
/-
  What a device brings to the call: its own four heads of the keys and of the values.
-/
module

public import proofs.«01_k».proof.Proof.KernelIdeal.Region
public import Idealize.ShloMosaic.Lib.StableHlo.ReadAt
public import Idealize.ShloMosaic.Lib.Pointwise

@[expose] public section

set_option maxRecDepth 16384

noncomputable section

namespace Cert.KernelIdeal.Hyper

open Cert.KernelIdeal Cert.KernelIdeal.Gen Idealize.ShloMosaic Idealize.ShloMosaic.TcCoe Idealize.SL.Sem

variable (m : (ℓ : Loc nD τ sig) → Buf (Elt Ideal) ℓ)

/-- Where a device's slice of a whole array begins on an axis, its start clamped so that it lies in the array. -/
abbrev slideTo (start : Fin 4 → ℤ) (a : Fin 4) : ℕ := Host.clampedStart S2x128x128x64 S2x128x4x64 rfl start a

/-- A slice that starts at head `4 c`, wherever else it is told to start, is the device's four heads of every row. -/
theorem slide_place (c : Dev nD) (start : Fin 4 → ℤ) (h2 : start 2 = (c.val * 4 : ℕ)) (b : Fin 2) (j : Fin 128) (h : Fin 4) (e : Fin 64)
    (p0 : slideTo start 0 + b.val < 2) (p1 : slideTo start 1 + j.val < 128) (p2 : slideTo start 2 + h.val < 128) (p3 : slideTo start 3 + e.val < 64) :
    ix4 (⟨slideTo start 0 + b.val, p0⟩ : Fin 2) (⟨slideTo start 1 + j.val, p1⟩ : Fin 128) (⟨slideTo start 2 + h.val, p2⟩ : Fin 128) (⟨slideTo start 3 + e.val, p3⟩ : Fin 64)
      = ix4 b j ⟨c.val * 4 + h.val, by have := c.isLt; have : nD = 32 := rfl; omega⟩ e := by
  have hc : c.val < 32 := c.isLt
  have e0 : slideTo start 0 + 2 ≤ 2 := Host.clampedStart_le (s := S2x128x128x64) (t := S2x128x4x64) rfl start 0 (by decide)
  have e1 : slideTo start 1 + 128 ≤ 128 := Host.clampedStart_le (s := S2x128x128x64) (t := S2x128x4x64) rfl start 1 (by decide)
  have e2 : slideTo start 2 = c.val * 4 :=
    Host.clampedStart_of_le (s := S2x128x128x64) (t := S2x128x4x64) rfl start 2 _ h2 (show c.val * 4 + 4 ≤ 128 by omega)
  have e3 : slideTo start 3 + 64 ≤ 64 := Host.clampedStart_le (s := S2x128x128x64) (t := S2x128x4x64) rfl start 3 (by decide)
  congr 1
  · exact Fin.ext (by show slideTo start 0 + b.val = b.val; omega)
  · exact Fin.ext (by show slideTo start 1 + j.val = j.val; omega)
  · exact Fin.ext (by show slideTo start 2 + h.val = c.val * 4 + h.val; omega)
  · exact Fin.ext (by show slideTo start 3 + e.val = e.val; omega)

/-- Four times a device's number as a word, read back. -/
theorem word_read : ∀ c : Dev nD, BitVec.toInt (BitVec.ofNat 32 (c.val * 4)) = (c.val * 4 : ℕ) := by decide

/-- The word at which device `c` starts its slice of the keys, -/
theorem start_keys (c : Dev nD) : (StableHlo.upto (hostOps0 c) (V0 m c) 16 (Proc.devRef .tc main_v8) : IVec S_ 32) ix0 = BitVec.ofNat 32 (c.val * 4) := by
  after_reads_at
  revert c
  decide
/-- and of the values. -/
theorem start_values (c : Dev nD) : (StableHlo.upto (hostOps0 c) (V0 m c) 26 (Proc.devRef .tc main_v13) : IVec S_ 32) ix0 = BitVec.ofNat 32 (c.val * 4) := by
  after_reads_at
  revert c
  decide

/-- The keys that device `c` brings are its four heads of the whole array. -/
theorem keys_apply (c : Dev nD) (b : Fin 2) (h : Fin 4) (j : Fin 128) (e : Fin 64) :
    (V1 m c main_v15 : Vec Ideal S2x4x128x64 .f32) (ix4 b h j e)
      = (m ((c.tc : Thread nD τ).loc main_arg2) : Vec Ideal S2x128x128x64 .f32) (ix4 b j ⟨c.val * 4 + h.val, by have := c.isLt; have : nD = 32 := rfl; omega⟩ e) := by
  unfold V1
  after_reads_at
  refine congrArg (m ((c.tc : Thread nD τ).loc main_arg2)) (slide_place c _ ?_ b j h e _ _ _ _)
  show BitVec.toInt ((StableHlo.upto (hostOps0 c) (V0 m c) 16 (Proc.devRef .tc main_v8) : IVec S_ 32) (Shape.Idx.first h_S_)) = _
  rw [show Shape.Idx.first h_S_ = ix0 from funext fun a => a.elim0, start_keys, word_read]

/-- So are the values. -/
theorem values_apply (c : Dev nD) (b : Fin 2) (h : Fin 4) (j : Fin 128) (e : Fin 64) :
    (V1 m c main_v16 : Vec Ideal S2x4x128x64 .f32) (ix4 b h j e)
      = (m ((c.tc : Thread nD τ).loc main_arg3) : Vec Ideal S2x128x128x64 .f32) (ix4 b j ⟨c.val * 4 + h.val, by have := c.isLt; have : nD = 32 := rfl; omega⟩ e) := by
  unfold V1
  after_reads_at
  refine congrArg (m ((c.tc : Thread nD τ).loc main_arg3)) (slide_place c _ ?_ b j h e _ _ _ _)
  show BitVec.toInt ((StableHlo.upto (hostOps0 c) (V0 m c) 26 (Proc.devRef .tc main_v13) : IVec S_ 32) (Shape.Idx.first h_S_)) = _
  rw [show Shape.Idx.first h_S_ = ix0 from funext fun a => a.elim0, start_values, word_read]

end Cert.KernelIdeal.Hyper

end
end
-- ==== Proof.Value.Reference.lean ====
/-
  The reference's composed term in stages, each read at an index.
-/
module

public import proofs.«01_k».proof.Proof.Gen.ReferenceIdeal.Run
public import proofs.«01_k».proof.Proof.Value.Attend

@[expose] public section

set_option maxRecDepth 16384

noncomputable section

namespace Cert.ReferenceIdeal.Stages

open Cert.Attend Cert.ReferenceIdeal Cert.ReferenceIdeal.Gen Idealize.ShloMosaic Idealize.ShloMosaic.TcCoe Idealize.SL.Sem

variable {F : FTy → Type} [FloatOps F]

/-- Each position's number of 64-blocks before it, by floor division. -/
def blocks : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- Which positions attend to which. -/
def mask : IVec S128x128 1 :=
  cmpi .sle (broadcastInDim S128x128 ![0, 1] bcast_S1x128_S128x128_0_1 (broadcastInDim S1x128 ![1] bcast_S128_S1x128_1 blocks))
    (broadcastInDim S128x128 ![0, 1] bcast_S128x1_S128x128_0_1 (broadcastInDim S128x1 ![0] bcast_S128_S128x1_0 blocks))

/-- Which rows attend to anything. -/
def any (mk : IVec S128x128 1) : IVec S128 1 := Host.reduce IntOp.ori mk (constantI S_ 1 0#1) reducesTo_S128x128_S128_d1 h_S_

/-- The queries of all heads. -/
def queries (X : FVec F S2x128x512 .f32) (Wq : FVec F S512x8192 .f32) : FVec F S2x128x128x64 .f32 :=
  shapeCast S2x128x128x64 (Host.dotGeneral dot_S2x128x512_S512x8192_S2x128x8192_2_0_01_1_n_n none X Wq) shapeCasts_S2x128x8192_S2x128x128x64

/-- The masked and scaled scores of all heads. -/
def scores (mk : IVec S128x128 1) (q K : FVec F S2x128x128x64 .f32) : FVec F S2x128x128x128 .f32 :=
  select (broadcastInDim S2x128x128x128 ![0, 1, 2, 3] bcast_S1x1x128x128_S2x128x128x128_0_1_2_3 (broadcastInDim S1x1x128x128 ![2, 3] bcast_S128x128_S1x1x128x128_2_3 mk))
    (mulf (Host.dotGeneral dot_S2x128x128x64_S2x128x128x64_S2x128x128x128_3_3_1_1_02_02 none q K) (broadcastInDim S2x128x128x128 ![] bcast_S_S2x128x128x128 (constant S_ .f32 0x3E000000#32)))
    (broadcastInDim S2x128x128x128 ![] bcast_S_S2x128x128x128 (id (constant S_ .f32 0xCE6E6B28#32)))

/-- The exponential of each row less the row's greatest entry. -/
def raised (s : FVec F S2x128x128x128 .f32) : FVec F S2x128x128x128 .f32 :=
  Host.exp (subf s (broadcastInDim S2x128x128x128 ![0, 1, 2, 3] bcast_S2x128x128x1_S2x128x128x128_0_1_2_3 (broadcastInDim S2x128x128x1 ![0, 1, 2] bcast_S2x128x128_S2x128x128x1_0_1_2 (Host.reduce FloatOps.maximumf s (constant S_ .f32 0xFF800000#32) reducesTo_S2x128x128x128_S2x128x128_d3 h_S_))))

/-- Each row that attends to anything divided by its sum, and 0 in the other rows. -/
def shares (an : IVec S128 1) (w : FVec F S2x128x128x128 .f32) : FVec F S2x128x128x128 .f32 :=
  select (broadcastInDim S2x128x128x128 ![0, 1, 2, 3] bcast_S1x1x128x1_S2x128x128x128_0_1_2_3 (broadcastInDim S1x1x128x1 ![2] bcast_S128_S1x1x128x1_2 an))
    (Host.divf w (broadcastInDim S2x128x128x128 ![0, 1, 2, 3] bcast_S2x128x128x1_S2x128x128x128_0_1_2_3
      (select (broadcastInDim S2x128x128x1 ![0, 1, 2, 3] bcast_S1x1x128x1_S2x128x128x1_0_1_2_3 (broadcastInDim S1x1x128x1 ![2] bcast_S128_S1x1x128x1_2 an))
        (broadcastInDim S2x128x128x1 ![0, 1, 2] bcast_S2x128x128_S2x128x128x1_0_1_2 (Host.reduceAdd w (constant S_ .f32 0x00000000#32) reducesTo_S2x128x128x128_S2x128x128_d3 h_S_))
        (broadcastInDim S2x128x128x1 ![] bcast_S_S2x128x128x1 (id (constant S_ .f32 0x3F800000#32))))))
    (broadcastInDim S2x128x128x128 ![] bcast_S_S2x128x128x128 (id (constant S_ .f32 0x00000000#32)))

/-- The heads' contexts side by side. -/
def contexts (w : FVec F S2x128x128x128 .f32) (V : FVec F S2x128x128x64 .f32) : FVec F S2x128x8192 .f32 :=
  shapeCast S2x128x8192 (transpose S2x128x128x64 [0, 3, 1, 2] (Host.dotGeneral dot_S2x128x128x64_S2x128x128x128_S2x128x64x128_1_3_3_2_02_01 none V w) transposes_S2x128x64x128_S2x128x128x64_0_3_1_2) shapeCasts_S2x128x128x64_S2x128x8192

/-- The reference's result. -/
def out (X : FVec F S2x128x512 .f32) (Wq : FVec F S512x8192 .f32) (K V : FVec F S2x128x128x64 .f32) (Wo : FVec F S8192x512 .f32) : FVec F S2x128x512 .f32 :=
  Host.dotGeneral dot_S2x128x8192_S8192x512_S2x128x512_2_0_01_1_n_n none (contexts (shares (any mask) (raised (scores mask (queries X Wq) K))) V) Wo

/-- The composed term of the reference's run is `out` of the arguments. -/
theorem res_eq (m : (ℓ : Loc nD τ sig) → Buf (Elt F) ℓ) (c : Dev nD) :
    Value.res_main_v33 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's floor division of a position by 64 is the number of 64-blocks before it. -/
theorem blocks_apply (i : Fin 128) : blocks (ix1 i) = BitVec.ofNat 32 (i.val / 64) := by
  pointwise [blocks]
  revert i
  decide

/-- The reference's mask is that of the blocks. -/
theorem mask_apply (i j : Fin 128) : mask (ix2 i j) = keeps i j := by
  rw [← keeps_eq]
  pointwise [mask]
  rw [blocks_apply, blocks_apply]

/-- Every row attends to something. -/
theorem any_apply (i : Fin 128) : any mask (ix1 i) = 1#1 := by
  pointwise [any]
  rw [← Finset.insert_erase (Finset.mem_univ (0 : Fin 128)), Finset.fold_insert (Finset.notMem_erase _ _), mask_apply, keeps_first]
  generalize Finset.fold IntOp.ori (0#1) (fun x => mask (ix2 i x)) (Finset.univ.erase 0) = y
  revert y
  decide

/-- A query of a batch, a row and a head is the row of activations times the head's columns of the weights. -/
theorem queries_apply (X : FVec Ideal S2x128x512 .f32) (Wq : FVec Ideal S512x8192 .f32) (b : Fin 2) (i h : Fin 128) (e : Fin 64) :
    queries X Wq (ix4 b i h e) = ∑ x : Fin 512, X (ix3 b i x) * Wq (ix2 x ⟨h.val * 64 + e.val, by omega⟩) := by
  pointwise [queries]

/-- A score, read from the row's query and all keys of the head. -/
theorem scores_apply (q K : FVec Ideal S2x128x128x64 .f32) (b : Fin 2) (h i j : Fin 128) :
    scores mask q K (ix4 b h i j) = score (fun e => q (ix4 b i h e)) (fun j e => K (ix4 b j h e)) i j := by
  unfold score
  rw [← mask_apply]
  pointwise [scores]
  rfl

/-- The exponential of a score less its row's greatest. -/
theorem raised_apply (s : FVec Ideal S2x128x128x128 .f32) (b : Fin 2) (h i j : Fin 128) :
    raised s (ix4 b h i j) = raise (fun x => s (ix4 b h i x)) j := by
  pointwise [raised, raise]

/-- A weight over its row's sum: no row is empty, so the reference's guard does nothing. -/
theorem shares_apply (w : FVec Ideal S2x128x128x128 .f32) (b : Fin 2) (h i j : Fin 128) :
    shares (any mask) w (ix4 b h i j) = share (fun x => w (ix4 b h i x)) j := by
  pointwise [shares, share]
  rw [any_apply]
  rfl

/-- The contexts at a row, a head and a column of the head. -/
theorem contexts_apply (q K V : FVec Ideal S2x128x128x64 .f32) (b : Fin 2) (i h : Fin 128) (e : Fin 64) (hh : h.val * 64 + e.val < 8192) :
    contexts (shares (any mask) (raised (scores mask q K))) V (ix3 b i ⟨h.val * 64 + e.val, hh⟩)
      = context (fun e => q (ix4 b i h e)) (fun j e => K (ix4 b j h e)) (fun j e => V (ix4 b j h e)) i e := by
  unfold context
  pointwise [contexts]
  simp only [shares_apply, raised_apply, scores_apply]
  exact Finset.sum_congr rfl fun _ _ => mul_comm _ _

/-- The reference's result at an index: over the heads and their columns, the context times the output weights. -/
theorem out_apply (X : FVec Ideal S2x128x512 .f32) (Wq : FVec Ideal S512x8192 .f32) (K V : FVec Ideal S2x128x128x64 .f32) (Wo : FVec Ideal S8192x512 .f32)
    (b : Fin 2) (i : Fin 128) (n : Fin 512) :
    out X Wq K V Wo (ix3 b i n)
      = ∑ h : Fin 128, ∑ e : Fin 64, context (fun e => ∑ x : Fin 512, X (ix3 b i x) * Wq (ix2 x ⟨h.val * 64 + e.val, by omega⟩))
          (fun j e => K (ix4 b j h e)) (fun j e => V (ix4 b j h e)) i e * Wo (ix2 ⟨h.val * 64 + e.val, by omega⟩ n) := by
  pointwise [out]
  rw [sum_runs (m := 128) (n := 64) rfl]
  refine Finset.sum_congr rfl fun h _ => Finset.sum_congr rfl fun e _ => congrArg (· * _) ?_
  rw [contexts_apply]
  simp only [queries_apply]

end Cert.ReferenceIdeal.Stages

end
end
-- ==== Proof.Value.Agree.lean ====
/-
  The kernel's result is the reference's.
-/
module

public import proofs.«01_k».proof.Proof.Value.Sum
public import proofs.«01_k».proof.Proof.Value.Device
public import proofs.«01_k».proof.Proof.Value.Host
public import proofs.«01_k».proof.Proof.Value.Reference
public import Idealize.ShloMosaic.Lib.Layout

@[expose] public section

set_option maxRecDepth 16384

noncomputable section

namespace Cert.KernelIdeal.Hyper

open Cert.KernelIdeal Cert.KernelIdeal.Gen Idealize.ShloMosaic Idealize.ShloMosaic.TcCoe Idealize.SL.Sem
open Cert.Attend

variable (m : (ℓ : Loc nD τ sig) → Buf (Elt Ideal) ℓ)

/-- The result at an index is the sum of the devices' products there. -/
theorem result_apply (b : Fin 2) (i : Fin 128) (n : Fin 512) :
    result m (ix3 b i n) = ∑ d : Dev nD, (part m d (ix2 ⟨b.val * 128 + i.val, by omega⟩ n) : EReal) := by
  rw [← outA_apply (part m)]
  unfold result
  pointwise [k0_pay1]

variable (X : FVec Ideal S2x128x512 .f32) (Wq : FVec Ideal Cert.ReferenceIdeal.S512x8192 .f32) (K V : FVec Ideal S2x128x128x64 .f32) (Wo : FVec Ideal Cert.ReferenceIdeal.S8192x512 .f32)

/-- Where every device holds its part of the arguments as the reference has them, the kernel's result is the reference's. -/
theorem result_eq
    (hX : ∀ c : Dev nD, m ((c.tc : Thread nD τ).loc main_arg0) = X)
    (hWq : ∀ c : Dev nD, m ((c.tc : Thread nD τ).loc main_arg1) = Layout.block ⟨2, ![512, 256]⟩ ⟨2, ![512, 8192]⟩ 1 32 c Wq)
    (hK : ∀ c : Dev nD, m ((c.tc : Thread nD τ).loc main_arg2) = K)
    (hV : ∀ c : Dev nD, m ((c.tc : Thread nD τ).loc main_arg3) = V)
    (hWo : ∀ c : Dev nD, m ((c.tc : Thread nD τ).loc main_arg4) = Layout.block ⟨2, ![256, 512]⟩ ⟨2, ![8192, 512]⟩ 0 32 c Wo) :
    result m = Cert.ReferenceIdeal.Stages.out X Wq K V Wo := by
  funext j
  obtain ⟨b, i, n, rfl⟩ : ∃ (b : Fin 2) (i : Fin 128) (n : Fin 512), j = ix3 b i n := ⟨j 0, j 1, j 2, eq_ix3 j⟩
  rw [result_apply, Cert.ReferenceIdeal.Stages.out_apply, sum_runs (m := 32) (n := 4) rfl]
  refine Finset.sum_congr rfl fun d _ => ?_
  unfold part
  rw [product_apply]
  refine Finset.sum_congr rfl fun h _ => Finset.sum_congr rfl fun e _ => ?_
  have hd : d.val < 32 := d.isLt
  have e0 : (V1 m d main_arg0 : FVec Ideal S2x128x512 .f32) = X := ((V1_of m d main_arg0 (by decide)).trans rfl).trans (hX d)
  have e1 : ∀ (x : Fin 512) (e : Fin 64), (V1 m d main_arg1 : FVec Ideal S512x256 .f32) (ix2 x ⟨h.val * 64 + e.val, by omega⟩)
      = Wq (ix2 x ⟨(d.val * 4 + h.val) * 64 + e.val, by omega⟩) := fun x e => by
    rw [show V1 m d main_arg1 = _ from ((V1_of m d main_arg1 (by decide)).trans rfl).trans (hWq d)]
    refine congrArg Wq (funext fun a => Fin.ext ?_)
    match a with
    | 0 => rfl
    | 1 =>
      show d.val * 256 + (h.val * 64 + e.val) = (d.val * 4 + h.val) * 64 + e.val
      omega
  have e4 : (V1 m d main_arg4 : FVec Ideal S256x512 .f32) (ix2 ⟨h.val * 64 + e.val, by omega⟩ n)
      = Wo (ix2 ⟨(d.val * 4 + h.val) * 64 + e.val, by omega⟩ n) := by
    rw [show V1 m d main_arg4 = _ from ((V1_of m d main_arg4 (by decide)).trans rfl).trans (hWo d)]
    refine congrArg Wo (funext fun a => Fin.ext ?_)
    match a with
    | 0 =>
      show d.val * 256 + (h.val * 64 + e.val) = (d.val * 4 + h.val) * 64 + e.val
      omega
    | 1 => rfl
  have e2 : ∀ (j : Fin 128) (e : Fin 64), (V1 m d main_v15 : FVec Ideal S2x4x128x64 .f32) (ix4 b h j e) = K (ix4 b j ⟨d.val * 4 + h.val, by omega⟩ e) :=
    fun j e => (keys_apply m d b h j e).trans (congrFun (hK d) _)
  have e3 : ∀ (j : Fin 128) (e : Fin 64), (V1 m d main_v16 : FVec Ideal S2x4x128x64 .f32) (ix4 b h j e) = V (ix4 b j ⟨d.val * 4 + h.val, by omega⟩ e) :=
    fun j e => (values_apply m d b h j e).trans (congrFun (hV d) _)
  refine congrArg₂ (fun x y : EReal => x * y) ?_ e4
  rw [e0]
  simp only [e1, e2, e3]

end Cert.KernelIdeal.Hyper

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The kernel over words ends with its arguments and counters as they were. -/
theorem frame_P : Cert.quiescent_Kernel (hKernel := Cert.Kernel.Gen.facts) := fun m g _ =>
  (θ_run _ _ _).mono (fun _ h => ⟨fun c => (h.1 c).1, h.2⟩) (Cert.Kernel.Hyper.run_main m g)

/-- So does the kernel over the reals, -/
theorem frame_PI : Cert.quiescent_KernelIdeal (hKernelIdeal := Cert.KernelIdeal.Gen.facts) := fun m g _ =>
  (θ_run _ _ _).mono (fun _ h => ⟨fun c => (h.1 c).1, h.2⟩) (Cert.KernelIdeal.Hyper.run_main m g)

/-- and the reference. -/
theorem frame_RI : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The kernel over the reals leaves on every device what the reference leaves, where each device holds its part of the
    reference's arguments. -/
theorem agree : Cert.algebraic_KernelIdeal_ReferenceIdeal (hKernelIdeal := Cert.KernelIdeal.Gen.facts) (hReferenceIdeal := Cert.ReferenceIdeal.Gen.facts) :=
  fun m g m' g' _ h =>
    ⟨Cert.ReferenceIdeal.Value.res_main_v33 m' 0,
      (θ_run _ _ _).mono (fun r hr c => ⟨(hr.1 c).2.trans ((Cert.KernelIdeal.Hyper.result_eq m _ _ _ _ _ (fun c => (h c).1) (fun c => (h c).2.1)
          (fun c => (h c).2.2.1) (fun c => (h c).2.2.2.1) (fun c => (h c).2.2.2.2)).trans (Cert.ReferenceIdeal.Stages.res_eq m' 0).symm), (hr.1 c).1⟩)
        (Cert.KernelIdeal.Hyper.run_main m g),
      (θ_run _ _ _).mono (fun r hr => hr 0) (Cert.ReferenceIdeal.Value.run m' g')⟩

/-- All five claims. -/
theorem claim : Cert.Claim :=
  ⟨Cert.Kernel.Gen.facts, Cert.KernelIdeal.Gen.facts, Cert.ReferenceIdeal.Gen.facts, frame_P, frame_PI, frame_RI, trivial, agree⟩

end Cert.Proof

end
